-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x256x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .bf16 := Host.absf main_arg2
  let main_cst_2 : FVec F S_ .bf16 := constant S_ .bf16 0x7F80#16
  let main_v10 : FVec F S2x512x8x64 .bf16 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x256x768 : Shape := ⟨3, ![2, 256, 768]⟩
abbrev S768x512 : Shape := ⟨2, ![768, 512]⟩
abbrev S2x16384x8x64 : Shape := ⟨4, ![2, 16384, 8, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_

variable [Facts]

def fn {F : FTy → Type} [FloatOps F] (main_arg0 : FVec F S2x256x768 .bf16) (main_arg1 : FVec F S768x512 .bf16) (main_arg2 : FVec F S2x16384x8x64 .bf16) (main_arg3 : FVec F S2x16384x8x64 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x16384x8x64 .bf16 := Host.absf main_arg2
  let main_cst_2 : FVec F S_ .bf16 := constant S_ .bf16 0x7F80#16
  let main_v10 : FVec F S2x16384x8x64 .bf16 := broadcastInDim S2x16384x8x64 ![] bcast_S_S2x16384x8x64 main_cst_2
  let main_v11 : IVec S2x16384x8x64 1 := cmpf .olt main_v9 main_v10
  let main_c_3 : IVec S_ 1 := constantI S_ 1 1#1
  let main_v12 : IVec S_ 1 := (fun x v => Host.reduce IntOp.andi x v reducesTo_S2x16384x8x64_S_d0_1_2_3 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S4x4x64x256 : Shape := ⟨4, ![4, 4, 64, 256]⟩
abbrev S4x4x2x256 : Shape := ⟨4, ![4, 4, 2, 256]⟩
abbrev S5x4x4x64x256 : Shape := ⟨5, ![5, 4, 4, 64, 256]⟩
abbrev S5x4x4x2x256 : Shape := ⟨5, ![5, 4, 4, 2, 256]⟩
abbrev S5x4 : Shape := ⟨2, ![5, 4]⟩
abbrev S_ : Shape := ⟨0, ![]⟩
abbrev S1x512x8x64 : Shape := ⟨4, ![1, 512, 8, 64]⟩
abbrev S512x8x64 : Shape := ⟨3, ![512, 8, 64]⟩
abbrev S512x512 : Shape := ⟨2, ![512, 512]⟩
abbrev S768x256 : Shape := ⟨2, ![768, 256]⟩
abbrev S256x768 : Shape := ⟨2, ![256, 768]⟩
abbrev S256x256 : Shape := ⟨2, ![256, 256]⟩
abbrev S64x256 : Shape := ⟨2, ![64, 256]⟩
abbrev S512x64 : Shape := ⟨2, ![512, 64]⟩
abbrev S512x256 : Shape := ⟨2, ![512, 256]⟩
abbrev S256 : Shape := ⟨1, ![256]⟩
abbrev S1x256 : Shape := ⟨2, ![1, 256]⟩
abbrev S1x1x64x256 : Shape := ⟨4, ![1, 1, 64, 256]⟩
abbrev S1x1x1x256 : Shape := ⟨4, ![1, 1, 1, 256]⟩
abbrev S1x1 : Shape := ⟨2, ![1, 1]⟩
abbrev S1x1x4x64x256 : Shape := ⟨5, ![1, 1, 4, 64, 256]⟩
abbrev S4x64x256 : Shape := ⟨3, ![4, 64, 256]⟩
abbrev S1x4x64x256 : Shape := ⟨4, ![1, 4, 64, 256]⟩
abbrev S1x1x4x2x256 : Shape := ⟨5, ![1, 1, 4, 2, 256]⟩
abbrev S4x2x256 : Shape := ⟨3, ![4, 2, 256]⟩
abbrev S1x4x2x256 : Shape := ⟨4, ![1, 4, 2, 256]⟩
abbrev S1x4x1x256 : Shape := ⟨4, ![1, 4, 1, 256]⟩
abbrev S4x1x256 : Shape := ⟨3, ![4, 1, 256]⟩
abbrev S1x1x4x1x256 : Shape := ⟨5, ![1, 1, 4, 1, 256]⟩
abbrev S1x1x256 : Shape := ⟨3, ![1, 1, 256]⟩
abbrev S64x768 : Shape := ⟨2, ![64, 768]⟩
abbrev S1x256x768 : Shape := ⟨3, ![1, 256, 768]⟩

abbrev nBuf : Space → Nat
  | .hbm => 6
  | .vmem => 10
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x8x64, .bf16⟩
  | .local _ .vmem, ⟨4, _⟩ => ⟨S2x512x8x64, .bf16⟩
  | .local _ .vmem, ⟨5, _⟩ => ⟨S2x256x768, .f32⟩
  | .local _ .vmem, ⟨6, _⟩ => ⟨S4x4x64x256, .bf16⟩
  | .local _ .vmem, ⟨7, _⟩ => ⟨S4x4x2x256, .f32⟩
  | .local _ .vmem, ⟨8, _⟩ => ⟨S5x4x4x64x256, .bf16⟩
  | .local _ .vmem, ⟨9, _⟩ => ⟨S5x4x4x2x256, .f32⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_99 : BitVec 32 := 1#32
  let v136 : BitVec 32 := Scalar.xori v2 c1_i32_99
  let c1_i32_107 : BitVec 32 := 1#32
  let v137 : BitVec 32 := Scalar.muli v136 c1_i32_107
  let v138 : BitVec 32 := Scalar.addi c0_i32_108 v137
  v138.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_99 : BitVec 32 := 1#32
  let v136 : BitVec 32 := Scalar.xori v2 c1_i32_99
  let c1_i32_122 : BitVec 32 := 1#32
  let v147 : BitVec 32 := Scalar.muli v136 c1_i32_122
  let v148 : BitVec 32 := Scalar.addi c0_i32_123 v147
  v148.toNat
def k0_dev8 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_196 : BitVec 32 := 2#32
  let v255 : BitVec 32 := Scalar.xori v2 c2_i32_196
  let c1_i32_204 : BitVec 32 := 1#32
  let v256 : BitVec 32 := Scalar.muli v255 c1_i32_204
  let v257 : BitVec 32 := Scalar.addi c0_i32_205 v256
  v257.toNat
def k0_dev9 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_196 : BitVec 32 := 2#32
  let v255 : BitVec 32 := Scalar.xori v2 c2_i32_196
  let c1_i32_219 : BitVec 32 := 1#32
  let v266 : BitVec 32 := Scalar.muli v255 c1_i32_219
  let v267 : BitVec 32 := Scalar.addi c0_i32_220 v266
  v267.toNat
def k0_dev10 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_293 : BitVec 32 := 4#32
  let v374 : BitVec 32 := Scalar.xori v2 c4_i32_293
  let c1_i32_301 : BitVec 32 := 1#32
  let v375 : BitVec 32 := Scalar.muli v374 c1_i32_301
  let v376 : BitVec 32 := Scalar.addi c0_i32_302 v375
  v376.toNat
def k0_dev11 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_293 : BitVec 32 := 4#32
  let v374 : BitVec 32 := Scalar.xori v2 c4_i32_293
  let c1_i32_316 : BitVec 32 := 1#32
  let v385 : BitVec 32 := Scalar.muli v374 c1_i32_316
  let v386 : BitVec 32 := Scalar.addi c0_i32_317 v385
  v386.toNat
def k0_dev12 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_390 : BitVec 32 := 8#32
  let v493 : BitVec 32 := Scalar.xori v2 c8_i32_390
  let c1_i32_397 : BitVec 32 := 1#32
  let v494 : BitVec 32 := Scalar.muli v493 c1_i32_397
  let v495 : BitVec 32 := Scalar.addi c0_i32_398 v494
  v495.toNat
def k0_dev13 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_390 : BitVec 32 := 8#32
  let v493 : BitVec 32 := Scalar.xori v2 c8_i32_390
  let c1_i32_412 : BitVec 32 := 1#32
  let v504 : BitVec 32 := Scalar.muli v493 c1_i32_412
  let v505 : BitVec 32 := Scalar.addi c0_i32_413 v504
  v505.toNat
def k0_dev14 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_517 : BitVec 32 := 2#32
  let v579 : BitVec 32 := Scalar.xori v2 c2_i32_517
  let c1_i32_525 : BitVec 32 := 1#32
  let v580 : BitVec 32 := Scalar.muli v579 c1_i32_525
  let v581 : BitVec 32 := Scalar.addi c0_i32_526 v580
  v581.toNat
def k0_dev15 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_517 : BitVec 32 := 2#32
  let v579 : BitVec 32 := Scalar.xori v2 c2_i32_517
  let c1_i32_540 : BitVec 32 := 1#32
  let v590 : BitVec 32 := Scalar.muli v579 c1_i32_540
  let v591 : BitVec 32 := Scalar.addi c0_i32_541 v590
  v591.toNat
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_645 : BitVec 32 := 4#32
  let v665 : BitVec 32 := Scalar.xori v2 c4_i32_645
  let c1_i32_653 : BitVec 32 := 1#32
  let v666 : BitVec 32 := Scalar.muli v665 c1_i32_653
  let v667 : BitVec 32 := Scalar.addi c0_i32_654 v666
  v667.toNat
def k0_dev17 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_645 : BitVec 32 := 4#32
  let v665 : BitVec 32 := Scalar.xori v2 c4_i32_645
  let c1_i32_668 : BitVec 32 := 1#32
  let v676 : BitVec 32 := Scalar.muli v665 c1_i32_668
  let v677 : BitVec 32 := Scalar.addi c0_i32_669 v676
  v677.toNat
def k0_dev18 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_773 : BitVec 32 := 8#32
  let v751 : BitVec 32 := Scalar.xori v2 c8_i32_773
  let c1_i32_781 : BitVec 32 := 1#32
  let v752 : BitVec 32 := Scalar.muli v751 c1_i32_781
  let v753 : BitVec 32 := Scalar.addi c0_i32_782 v752
  v753.toNat
def k0_dev19 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_773 : BitVec 32 := 8#32
  let v751 : BitVec 32 := Scalar.xori v2 c8_i32_773
  let c1_i32_796 : BitVec 32 := 1#32
  let v762 : BitVec 32 := Scalar.muli v751 c1_i32_796
  let v763 : BitVec 32 := Scalar.addi c0_i32_797 v762
  v763.toNat
def k0_dev20 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v837 : BitVec 32 := Scalar.xori v2 c16_i32_901
  let c1_i32_909 : BitVec 32 := 1#32
  let v838 : BitVec 32 := Scalar.muli v837 c1_i32_909
  let v839 : BitVec 32 := Scalar.addi c0_i32_910 v838
  v839.toNat
def k0_dev21 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_901 : BitVec 32 := 16#32
  let v837 : BitVec 32 := Scalar.xori v2 c16_i32_901
  let c1_i32_924 : BitVec 32 := 1#32
  let v848 : BitVec 32 := Scalar.muli v837 c1_i32_924
  let v849 : BitVec 32 := Scalar.addi c0_i32_925 v848
  v849.toNat
def k0_dev22 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1029 : BitVec 32 := 4#32
  let v923 : BitVec 32 := Scalar.xori v2 c4_i32_1029
  let c1_i32_1037 : BitVec 32 := 1#32
  let v924 : BitVec 32 := Scalar.muli v923 c1_i32_1037
  let v925 : BitVec 32 := Scalar.addi c0_i32_1038 v924
  v925.toNat
def k0_dev23 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1029 : BitVec 32 := 4#32
  let v923 : BitVec 32 := Scalar.xori v2 c4_i32_1029
  let c1_i32_1052 : BitVec 32 := 1#32
  let v934 : BitVec 32 := Scalar.muli v923 c1_i32_1052
  let v935 : BitVec 32 := Scalar.addi c0_i32_1053 v934
  v935.toNat
def k0_dev24 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1157 : BitVec 32 := 8#32
  let v1009 : BitVec 32 := Scalar.xori v2 c8_i32_1157
  let c1_i32_1165 : BitVec 32 := 1#32
  let v1010 : BitVec 32 := Scalar.muli v1009 c1_i32_1165
  let v1011 : BitVec 32 := Scalar.addi c0_i32_1166 v1010
  v1011.toNat
def k0_dev25 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1157 : BitVec 32 := 8#32
  let v1009 : BitVec 32 := Scalar.xori v2 c8_i32_1157
  let c1_i32_1180 : BitVec 32 := 1#32
  let v1020 : BitVec 32 := Scalar.muli v1009 c1_i32_1180
  let v1021 : BitVec 32 := Scalar.addi c0_i32_1181 v1020
  v1021.toNat
def k0_dev26 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1285 : BitVec 32 := 16#32
  let v1095 : BitVec 32 := Scalar.xori v2 c16_i32_1285
  let c1_i32_1293 : BitVec 32 := 1#32
  let v1096 : BitVec 32 := Scalar.muli v1095 c1_i32_1293
  let v1097 : BitVec 32 := Scalar.addi c0_i32_1294 v1096
  v1097.toNat
def k0_dev27 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1285 : BitVec 32 := 16#32
  let v1095 : BitVec 32 := Scalar.xori v2 c16_i32_1285
  let c1_i32_1308 : BitVec 32 := 1#32
  let v1106 : BitVec 32 := Scalar.muli v1095 c1_i32_1308
  let v1107 : BitVec 32 := Scalar.addi c0_i32_1309 v1106
  v1107.toNat
def k0_dev28 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1413 : BitVec 32 := 1#32
  let v1181 : BitVec 32 := Scalar.xori v2 c1_i32_1413
  let c1_i32_1421 : BitVec 32 := 1#32
  let v1182 : BitVec 32 := Scalar.muli v1181 c1_i32_1421
  let v1183 : BitVec 32 := Scalar.addi c0_i32_1422 v1182
  v1183.toNat
def k0_dev29 (d0 : Dev nD) : Nat :=
  let c0_i32_1437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1413 : BitVec 32 := 1#32
  let v1181 : BitVec 32 := Scalar.xori v2 c1_i32_1413
  let c1_i32_1436 : BitVec 32 := 1#32
  let v1192 : BitVec 32 := Scalar.muli v1181 c1_i32_1436
  let v1193 : BitVec 32 := Scalar.addi c0_i32_1437 v1192
  v1193.toNat
def k0_dev30 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1541 : BitVec 32 := 8#32
  let v1267 : BitVec 32 := Scalar.xori v2 c8_i32_1541
  let c1_i32_1549 : BitVec 32 := 1#32
  let v1268 : BitVec 32 := Scalar.muli v1267 c1_i32_1549
  let v1269 : BitVec 32 := Scalar.addi c0_i32_1550 v1268
  v1269.toNat
def k0_dev31 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1541 : BitVec 32 := 8#32
  let v1267 : BitVec 32 := Scalar.xori v2 c8_i32_1541
  let c1_i32_1564 : BitVec 32 := 1#32
  let v1278 : BitVec 32 := Scalar.muli v1267 c1_i32_1564
  let v1279 : BitVec 32 := Scalar.addi c0_i32_1565 v1278
  v1279.toNat
def k0_dev32 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1669 : BitVec 32 := 16#32
  let v1353 : BitVec 32 := Scalar.xori v2 c16_i32_1669
  let c1_i32_1677 : BitVec 32 := 1#32
  let v1354 : BitVec 32 := Scalar.muli v1353 c1_i32_1677
  let v1355 : BitVec 32 := Scalar.addi c0_i32_1678 v1354
  v1355.toNat
def k0_dev33 (d0 : Dev nD) : Nat :=
  let c0_i32_1693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1669 : BitVec 32 := 16#32
  let v1353 : BitVec 32 := Scalar.xori v2 c16_i32_1669
  let c1_i32_1692 : BitVec 32 := 1#32
  let v1364 : BitVec 32 := Scalar.muli v1353 c1_i32_1692
  let v1365 : BitVec 32 := Scalar.addi c0_i32_1693 v1364
  v1365.toNat
def k0_dev34 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1797 : BitVec 32 := 1#32
  let v1439 : BitVec 32 := Scalar.xori v2 c1_i32_1797
  let c1_i32_1805 : BitVec 32 := 1#32
  let v1440 : BitVec 32 := Scalar.muli v1439 c1_i32_1805
  let v1441 : BitVec 32 := Scalar.addi c0_i32_1806 v1440
  v1441.toNat
def k0_dev35 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1797 : BitVec 32 := 1#32
  let v1439 : BitVec 32 := Scalar.xori v2 c1_i32_1797
  let c1_i32_1820 : BitVec 32 := 1#32
  let v1450 : BitVec 32 := Scalar.muli v1439 c1_i32_1820
  let v1451 : BitVec 32 := Scalar.addi c0_i32_1821 v1450
  v1451.toNat
def k0_dev36 (d0 : Dev nD) : Nat :=
  let c0_i32_1934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1925 : BitVec 32 := 2#32
  let v1525 : BitVec 32 := Scalar.xori v2 c2_i32_1925
  let c1_i32_1933 : BitVec 32 := 1#32
  let v1526 : BitVec 32 := Scalar.muli v1525 c1_i32_1933
  let v1527 : BitVec 32 := Scalar.addi c0_i32_1934 v1526
  v1527.toNat
def k0_dev37 (d0 : Dev nD) : Nat :=
  let c0_i32_1949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1925 : BitVec 32 := 2#32
  let v1525 : BitVec 32 := Scalar.xori v2 c2_i32_1925
  let c1_i32_1948 : BitVec 32 := 1#32
  let v1536 : BitVec 32 := Scalar.muli v1525 c1_i32_1948
  let v1537 : BitVec 32 := Scalar.addi c0_i32_1949 v1536
  v1537.toNat
def k0_dev38 (d0 : Dev nD) : Nat :=
  let c0_i32_2062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2053 : BitVec 32 := 16#32
  let v1611 : BitVec 32 := Scalar.xori v2 c16_i32_2053
  let c1_i32_2061 : BitVec 32 := 1#32
  let v1612 : BitVec 32 := Scalar.muli v1611 c1_i32_2061
  let v1613 : BitVec 32 := Scalar.addi c0_i32_2062 v1612
  v1613.toNat
def k0_dev39 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2053 : BitVec 32 := 16#32
  let v1611 : BitVec 32 := Scalar.xori v2 c16_i32_2053
  let c1_i32_2076 : BitVec 32 := 1#32
  let v1622 : BitVec 32 := Scalar.muli v1611 c1_i32_2076
  let v1623 : BitVec 32 := Scalar.addi c0_i32_2077 v1622
  v1623.toNat
def k0_dev40 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2181 : BitVec 32 := 1#32
  let v1697 : BitVec 32 := Scalar.xori v2 c1_i32_2181
  let c1_i32_2189 : BitVec 32 := 1#32
  let v1698 : BitVec 32 := Scalar.muli v1697 c1_i32_2189
  let v1699 : BitVec 32 := Scalar.addi c0_i32_2190 v1698
  v1699.toNat
def k0_dev41 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2181 : BitVec 32 := 1#32
  let v1697 : BitVec 32 := Scalar.xori v2 c1_i32_2181
  let c1_i32_2204 : BitVec 32 := 1#32
  let v1708 : BitVec 32 := Scalar.muli v1697 c1_i32_2204
  let v1709 : BitVec 32 := Scalar.addi c0_i32_2205 v1708
  v1709.toNat
def k0_dev42 (d0 : Dev nD) : Nat :=
  let c0_i32_2318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2309 : BitVec 32 := 2#32
  let v1783 : BitVec 32 := Scalar.xori v2 c2_i32_2309
  let c1_i32_2317 : BitVec 32 := 1#32
  let v1784 : BitVec 32 := Scalar.muli v1783 c1_i32_2317
  let v1785 : BitVec 32 := Scalar.addi c0_i32_2318 v1784
  v1785.toNat
def k0_dev43 (d0 : Dev nD) : Nat :=
  let c0_i32_2333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2309 : BitVec 32 := 2#32
  let v1783 : BitVec 32 := Scalar.xori v2 c2_i32_2309
  let c1_i32_2332 : BitVec 32 := 1#32
  let v1794 : BitVec 32 := Scalar.muli v1783 c1_i32_2332
  let v1795 : BitVec 32 := Scalar.addi c0_i32_2333 v1794
  v1795.toNat
def k0_dev44 (d0 : Dev nD) : Nat :=
  let c0_i32_2446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2437 : BitVec 32 := 4#32
  let v1869 : BitVec 32 := Scalar.xori v2 c4_i32_2437
  let c1_i32_2445 : BitVec 32 := 1#32
  let v1870 : BitVec 32 := Scalar.muli v1869 c1_i32_2445
  let v1871 : BitVec 32 := Scalar.addi c0_i32_2446 v1870
  v1871.toNat
def k0_dev45 (d0 : Dev nD) : Nat :=
  let c0_i32_2461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2437 : BitVec 32 := 4#32
  let v1869 : BitVec 32 := Scalar.xori v2 c4_i32_2437
  let c1_i32_2460 : BitVec 32 := 1#32
  let v1880 : BitVec 32 := Scalar.muli v1869 c1_i32_2460
  let v1881 : BitVec 32 := Scalar.addi c0_i32_2461 v1880
  v1881.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x16384x8x64 : Shape := ⟨4, ![2, 16384, 8, 64]⟩
abbrev S512x768 : Shape := ⟨2, ![512, 768]⟩
abbrev S2x256x512 : Shape := ⟨3, ![2, 256, 512]⟩
abbrev S2x256x8x64 : Shape := ⟨4, ![2, 256, 8, 64]⟩
abbrev S2x8x256x16384 : Shape := ⟨4, ![2, 8, 256, 16384]⟩
abbrev S_ : Shape := ⟨0, ![]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S2x256x8x1 : Shape := ⟨4, ![2, 256, 8, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x16384x8x64, .bf16⟩
  | .hbm, ⟨3, _⟩ => ⟨S2x16384x8x64, .bf16⟩
  | .hbm, ⟨4, _⟩ => ⟨S512x768, .bf16⟩
  | .hbm, ⟨5, _⟩ => ⟨S2x256x512, .f32⟩
  | .hbm, ⟨6, _⟩ => ⟨S2x256x512, .bf16⟩
  | .hbm, ⟨7, _⟩ => ⟨S2x256x8x64, .bf16⟩
  | .hbm, ⟨8, _⟩ => ⟨S2x8x256x16384, .f32⟩
  | .hbm, ⟨9, _⟩ => ⟨S2x8x256x16384, .bf16⟩
  | .hbm, ⟨10, _⟩ => ⟨S2x8x256x16384, .f32⟩
  | .hbm, ⟨11, _⟩ => ⟨S_, .f32⟩
  | .hbm, ⟨12, _⟩ => ⟨S2x8x256x16384, .f32⟩
  | .hbm, ⟨13, _⟩ => ⟨S2x8x256x16384, .f32⟩
  | .hbm, ⟨14, _⟩ => ⟨S_, .f32⟩
  | .hbm, ⟨15, _⟩ => ⟨S2x8x256, .f32⟩
  | .hbm, ⟨16, _⟩ => ⟨S2x8x256x1, .f32⟩
  | .hbm, ⟨17, _⟩ => ⟨S2x8x256x16384, .f32⟩
  | .hbm, ⟨18, _⟩ => ⟨S2x8x256x16384, .f32⟩
  | .hbm, ⟨19, _⟩ => ⟨S2x8x256x16384, .f32⟩
  | .hbm, ⟨20, _⟩ => ⟨S_, .f32⟩
  | .hbm, ⟨21, _⟩ => ⟨S2x8x256, .f32⟩
  | .hbm, ⟨22, _⟩ => ⟨S2x8x256x1, .f32⟩
  | .hbm, ⟨23, _⟩ => ⟨S2x8x64x256, .f32⟩
  | .hbm, ⟨24, _⟩ => ⟨S2x256x8x64, .f32⟩
  | .hbm, ⟨25, _⟩ => ⟨S2x256x8x1, .f32⟩
  | .hbm, ⟨26, _⟩ => ⟨S2x256x8x64, .f32⟩
  | .hbm, ⟨27, _⟩ => ⟨S2x256x8x64, .f32⟩
  | .hbm, ⟨28, _⟩ => ⟨S2x256x512, .f32⟩
  | .hbm, ⟨29, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Segs.lean ====
/-
The kernel's body written once per kind of step: the handshake, one head's local attention, one exchange, one
combination, one strip's projection, each over the strip, the head and the step as variables. `Proof/Body.lean` shows
that the printed body is these, one after the other.
-/
module

public import proofs.«01_k».proof.Proof.Gen.KernelIdeal

@[expose] public section

noncomputable section

namespace Cert.Butterfly

open Idealize.ShloMosaic Idealize.SL.Sem
open Cert.KernelIdeal Cert.KernelIdeal.Gen

variable {F : FTy → Type} [FloatOps F]

/-! ## The devices -/

/-- The word with bit `b` set. -/
def bitW : Fin 5 → BitVec 32
  | 0 => 1#32 | 1 => 2#32 | 2 => 4#32 | 3 => 8#32 | 4 => 16#32

/-- The logical id the kernel computes for the partner across bit `b`. -/
def ptN (b : Fin 5) (c : Dev nD) : ℕ :=
  (Scalar.addi 0#32 (Scalar.muli (Scalar.xori (Scalar.remsi (Scalar.divsi (Dev.word c) 1#32) 32#32) (bitW b)) 1#32)).toNat

theorem ptN_lt : ∀ (b : Fin 5) (c : Dev nD), ptN b c < nD := by decide +kernel

/-- The partner of device `c` across bit `b`. -/
def pt (b : Fin 5) (c : Dev nD) : Dev nD := ⟨ptN b c, ptN_lt b c⟩

theorem pt_pt (b : Fin 5) (c : Dev nD) : pt b (pt b c) = c := by revert b c; decide +kernel

/-- The bit strip `j` crosses at step `s`. -/
def bitOf (s : Fin 5) (j : Fin 4) : Fin 5 := ⟨(s.val + j.val) % 5, Nat.mod_lt _ (by decide)⟩

/-! ## The memrefs -/

abbrev xM : Memref sig .tc .vmem S2x256x768 .bf16 := Memref.whole cc0_stg0_0
abbrev wqM : Memref sig .tc .vmem S768x512 .bf16 := Memref.whole cc0_stg1_0
abbrev woM : Memref sig .tc .vmem S512x768 .bf16 := Memref.whole cc0_stg2_0
abbrev kM : Memref sig .tc .vmem S2x512x8x64 .bf16 := Memref.whole cc0_stg3_0
abbrev vM : Memref sig .tc .vmem S2x512x8x64 .bf16 := Memref.whole cc0_stg4_0
abbrev outM : Memref sig .tc .vmem S2x256x768 .f32 := Memref.whole cc0_stg5_0
abbrev oM : Memref sig .tc .vmem S4x4x64x256 .bf16 := Memref.whole cc0_scratch0
abbrev mlM : Memref sig .tc .vmem S4x4x2x256 .f32 := Memref.whole cc0_scratch1
abbrev orxM : Memref sig .tc .vmem S5x4x4x64x256 .bf16 := Memref.whole cc0_scratch2
abbrev mlrxM : Memref sig .tc .vmem S5x4x4x2x256 .f32 := Memref.whole cc0_scratch3

theorem inbO : ∀ (j : Fin 4) a, (![j.val, 0, 0, 0] : Fin 4 → ℕ) a + S1x4x64x256.size a ≤ S4x4x64x256.size a := by decide
theorem inbM : ∀ (j : Fin 4) a, (![j.val, 0, 0, 0] : Fin 4 → ℕ) a + S1x4x2x256.size a ≤ S4x4x2x256.size a := by decide
theorem inbOr : ∀ (s : Fin 5) (j : Fin 4) a, (![s.val, j.val, 0, 0, 0] : Fin 5 → ℕ) a + S1x1x4x64x256.size a ≤ S5x4x4x64x256.size a := by decide
theorem inbMr : ∀ (s : Fin 5) (j : Fin 4) a, (![s.val, j.val, 0, 0, 0] : Fin 5 → ℕ) a + S1x1x4x2x256.size a ≤ S5x4x4x2x256.size a := by decide
theorem inbSem : ∀ (s : Fin 5) (j : Fin 4) a, (![s.val, j.val] : Fin 2 → ℕ) a + S1x1.size a ≤ S5x4.size a := by decide
theorem inbO1 : ∀ (j i : Fin 4) a, (![j.val, i.val, 0, 0] : Fin 4 → ℕ) a + S1x1x64x256.size a ≤ S4x4x64x256.size a := by decide
theorem inbM1 : ∀ (j i : Fin 4) (r : Fin 2) a, (![j.val, i.val, r.val, 0] : Fin 4 → ℕ) a + S1x1x1x256.size a ≤ S4x4x2x256.size a := by decide
theorem inbMrow : ∀ (j : Fin 4) (r : Fin 2) a, (![j.val, 0, r.val, 0] : Fin 4 → ℕ) a + S1x4x1x256.size a ≤ S4x4x2x256.size a := by decide
theorem inbMrrow : ∀ (s : Fin 5) (j : Fin 4) (r : Fin 2) a, (![s.val, j.val, 0, r.val, 0] : Fin 5 → ℕ) a + S1x1x4x1x256.size a ≤ S5x4x4x2x256.size a := by decide
theorem inbOut : ∀ (b : Fin 2) a, (![b.val, 0, 0] : Fin 3 → ℕ) a + S1x256x768.size a ≤ S2x256x768.size a := by decide
theorem inbK : ∀ (b : Fin 2) a, (![b.val, 0, 0, 0] : Fin 4 → ℕ) a + S1x512x8x64.size a ≤ S2x512x8x64.size a := by decide

abbrev rO (j : Fin 4) : Rect S4x4x64x256 := Rect.unit (s := S4x4x64x256) ![j.val, 0, 0, 0] S1x4x64x256.size (inbO j)
abbrev rM (j : Fin 4) : Rect S4x4x2x256 := Rect.unit (s := S4x4x2x256) ![j.val, 0, 0, 0] S1x4x2x256.size (inbM j)
abbrev rOr (s : Fin 5) (j : Fin 4) : Rect S5x4x4x64x256 := Rect.unit (s := S5x4x4x64x256) ![s.val, j.val, 0, 0, 0] S1x1x4x64x256.size (inbOr s j)
abbrev rMr (s : Fin 5) (j : Fin 4) : Rect S5x4x4x2x256 := Rect.unit (s := S5x4x4x2x256) ![s.val, j.val, 0, 0, 0] S1x1x4x2x256.size (inbMr s j)
abbrev rSem (s : Fin 5) (j : Fin 4) : Rect S5x4 := Rect.unit (s := S5x4) ![s.val, j.val] S1x1.size (inbSem s j)
abbrev rO1 (j i : Fin 4) : Rect S4x4x64x256 := Rect.unit (s := S4x4x64x256) ![j.val, i.val, 0, 0] S1x1x64x256.size (inbO1 j i)
abbrev rM1 (j i : Fin 4) (r : Fin 2) : Rect S4x4x2x256 := Rect.unit (s := S4x4x2x256) ![j.val, i.val, r.val, 0] S1x1x1x256.size (inbM1 j i r)
abbrev rMrow (j : Fin 4) (r : Fin 2) : Rect S4x4x2x256 := Rect.unit (s := S4x4x2x256) ![j.val, 0, r.val, 0] S1x4x1x256.size (inbMrow j r)
abbrev rMrrow (s : Fin 5) (j : Fin 4) (r : Fin 2) : Rect S5x4x4x2x256 := Rect.unit (s := S5x4x4x2x256) ![s.val, j.val, 0, r.val, 0] S1x1x4x1x256.size (inbMrrow s j r)
abbrev rOut (b : Fin 2) : Rect S2x256x768 := Rect.unit (s := S2x256x768) ![b.val, 0, 0] S1x256x768.size (inbOut b)
abbrev rK (b : Fin 2) : Rect S2x512x8x64 := Rect.unit (s := S2x512x8x64) ![b.val, 0, 0, 0] S1x512x8x64.size (inbK b)

/-- Strip `j`'s accumulators, and the slots the partner's land in at step `s`. -/
abbrev oAcc (j : Fin 4) : Memref sig .tc .vmem S4x64x256 .bf16 := (oM.slice (rO j) (fun _ => rfl)).squeeze S4x64x256 squeezes_S1x4x64x256_S4x64x256
abbrev mlAcc (j : Fin 4) : Memref sig .tc .vmem S4x2x256 .f32 := (mlM.slice (rM j) (fun _ => rfl)).squeeze S4x2x256 squeezes_S1x4x2x256_S4x2x256
abbrev oRx (s : Fin 5) (j : Fin 4) : Memref sig .tc .vmem S4x64x256 .bf16 := (orxM.slice (rOr s j) (fun _ => rfl)).squeeze S4x64x256 squeezes_S1x1x4x64x256_S4x64x256
abbrev mlRx (s : Fin 5) (j : Fin 4) : Memref sig .tc .vmem S4x2x256 .f32 := (mlrxM.slice (rMr s j) (fun _ => rfl)).squeeze S4x2x256 squeezes_S1x1x4x2x256_S4x2x256

/-- The four semaphores of strip `j`'s exchange at step `s`. -/
abbrev semAt (A : DmaSems sig S5x4) (s : Fin 5) (j : Fin 4) : DmaSem sig := ((A.slice (rSem s j)).squeeze S_ squeezes_S1x1_S_).sem

abbrev barS : Sem sig := (SemArray.scalar (sig.barrier 0 rfl) : Sems sig S_).sem

theorem wordsO : ∀ j : Fin 4, (rO j).WholeWords (EltTy.packing .bf16) := by decide
theorem wordsOr : ∀ (s : Fin 5) (j : Fin 4), (rOr s j).WholeWords (EltTy.packing .bf16) := by decide
theorem packedO : ∀ j : Fin 4, (rO j).PackedRows (EltTy.packing .bf16) := by decide
theorem packedO1 : ∀ j i : Fin 4, (rO1 j i).PackedRows (EltTy.packing .bf16) := by decide

theorem slWq : ∀ j : Fin 4, S768x512.Slices ![0, j.val % 2 * 256] S768x256 := by decide
theorem slX : ∀ j : Fin 4, S512x768.Slices ![j.val / 2 * 256, 0] S256x768 := by decide
theorem slQ : ∀ i : Fin 4, S256x256.Slices ![i.val * 64, 0] S64x256 := by decide
theorem slK : ∀ j i : Fin 4, S512x512.Slices ![0, (j.val % 2 * 4 + i.val) * 64] S512x64 := by decide
theorem slL : ∀ i : Fin 4, S4x1x256.Slices ![i.val, 0, 0] S1x1x256 := by decide
theorem slWo : ∀ j i : Fin 4, S512x768.Slices ![(j.val % 2 * 4 + i.val) * 64, 0] S64x768 := by decide

/-! ## The values -/

/-- The queries of strip `j`'s four heads, scaled: one row per head's coordinate, one column per query. -/
def qOf (j : Fin 4) (wq : FVec F S768x512 .bf16) (x : FVec F S512x768 .bf16) : FVec F S256x256 .bf16 :=
  truncf .bf16 (mulf (matmul dot_S768x256_S256x768_S256x256_0_1_1_0_n_n none
      (extractStridedSlice S768x256 ![0, j.val % 2 * 256] wq (slWq j)) (extractStridedSlice S256x768 ![j.val / 2 * 256, 0] x (slX j))
      (constant S256x256 .f32 0x00000000#32)) (broadcast S256x256 (Scalar.ofBits .f32 0x3E000000#32))) bitsLt_bf16_f32

/-- The scores of head `i` of strip `j`: one row per local key, one column per query. -/
def sOf (j i : Fin 4) (q : FVec F S256x256 .bf16) (k : FVec F S512x512 .bf16) : FVec F S512x256 .f32 :=
  matmul dot_S512x64_S64x256_S512x256_1_0_0_1_n_n none
    (extractStridedSlice S512x64 ![0, (j.val % 2 * 4 + i.val) * 64] k (slK j i)) (extractStridedSlice S64x256 ![i.val * 64, 0] q (slQ i))
    (constant S512x256 .f32 0x00000000#32)

/-- Their maximum over the local keys. -/
def mOf (s : FVec F S512x256 .f32) : FVec F S1x256 .f32 :=
  shapeCast S1x256 (multiReduction .maximumf [0] S256 s 0xFF800000#32 reduces_S512x256_S256 (.inl rfl) rfl) shapeCasts_S256_S1x256

/-- The exponentials of the scores less that maximum. -/
def pOf (s : FVec F S512x256 .f32) : FVec F S512x256 .f32 := exp (subf s (broadcastTo S512x256 (mOf s) broadcasts_S1x256_S512x256))

/-- Their sum over the local keys. -/
def lOf (s : FVec F S512x256 .f32) : FVec F S1x256 .f32 :=
  shapeCast S1x256 (multiReduction .add [0] S256 (pOf s) 0x00000000#32 reduces_S512x256_S256 (.inl rfl) rfl) shapeCasts_S256_S1x256

/-- The local values weighted by them. -/
def oOf (j i : Fin 4) (s : FVec F S512x256 .f32) (v : FVec F S512x512 .bf16) : FVec F S64x256 .bf16 :=
  truncf .bf16 (matmul dot_S512x64_S512x256_S64x256_0_0_1_1_n_n none
    (extractStridedSlice S512x64 ![0, (j.val % 2 * 4 + i.val) * 64] v (slK j i)) (truncf .bf16 (pOf s) bitsLt_bf16_f32)
    (constant S64x256 .f32 0x00000000#32)) bitsLt_bf16_f32

/-- One combination: the new maximum, and the factor of an accumulator whose maximum is `m`. -/
def mNew (m1 m2 : FVec F S4x1x256 .f32) : FVec F S4x1x256 .f32 := maximumf m1 m2
def aNew (m mn : FVec F S4x1x256 .f32) : FVec F S4x1x256 .f32 := exp (subf m mn)
def lNew (m1 l1 m2 l2 : FVec F S4x1x256 .f32) : FVec F S4x1x256 .f32 :=
  addf (mulf (aNew m1 (mNew m1 m2)) l1) (mulf (aNew m2 (mNew m1 m2)) l2)
def oNew (m1 m2 : FVec F S4x1x256 .f32) (o1 o2 : FVec F S4x64x256 .bf16) : FVec F S4x64x256 .bf16 :=
  truncf .bf16 (addf
    (mulf (broadcastTo S4x64x256 (aNew m1 (mNew m1 m2)) broadcasts_S4x1x256_S4x64x256) (extf .f32 o1 bitsLt_bf16_f32))
    (mulf (broadcastTo S4x64x256 (aNew m2 (mNew m1 m2)) broadcasts_S4x1x256_S4x64x256) (extf .f32 o2 bitsLt_bf16_f32))) bitsLt_bf16_f32

/-- The reciprocals of the sums. -/
def linvOf (l : FVec F S4x1x256 .f32) : FVec F S4x1x256 .f32 := divf (broadcast S4x1x256 (Scalar.ofBits .f32 0x3F800000#32)) l

/-- Head `i` of strip `j` normalized and projected. -/
def projOf (j i : Fin 4) (linv : FVec F S4x1x256 .f32) (wo : FVec F S512x768 .bf16) (o : FVec F S64x256 .bf16) : FVec F S256x768 .f32 :=
  matmul dot_S64x256_S64x768_S256x768_0_0_1_1_n_n none
    (truncf .bf16 (mulf (extf .f32 o bitsLt_bf16_f32)
      (broadcastTo S64x256 (shapeCast S1x256 (extractStridedSlice S1x1x256 ![i.val, 0, 0] linv (slL i)) shapeCasts_S1x1x256_S1x256) broadcasts_S1x256_S64x256))
      bitsLt_bf16_f32)
    (extractStridedSlice S64x768 ![(j.val % 2 * 4 + i.val) * 64, 0] wo (slWo j i)) (constant S256x768 .f32 0x00000000#32)

/-- A strip's four heads, summed. -/
def accOf (j : Fin 4) (linv : FVec F S4x1x256 .f32) (wo : FVec F S512x768 .bf16) (o0 o1 o2 o3 : FVec F S64x256 .bf16) : FVec F S256x768 .f32 :=
  addf (addf (addf (addf (broadcast S256x768 (Scalar.ofBits .f32 0x00000000#32)) (projOf j 0 linv wo o0)) (projOf j 1 linv wo o1))
    (projOf j 2 linv wo o2)) (projOf j 3 linv wo o3)

/-! ## The segments -/

/-- A program of the kernel. -/
abbrev T (F : FTy → Type) [FloatOps F] (α : Type) := Prog (TpuEff nD τ sig (Elt F) Λ₀ .tc) α

/-- The handshake on the barrier semaphore. -/
def handshake (c : Dev nD) : T F PUnit := do
  semSignalWord (pt 0 c) barS 1#32
  semSignalWord (pt 1 c) barS 1#32
  semSignalWord (pt 2 c) barS 1#32
  semSignalWord (pt 3 c) barS 1#32
  semSignalWord (pt 4 c) barS 1#32
  semWaitWord barS 5#32

def loadX : T F (FVec F S512x768 .bf16) := do
  let v ← Prog.lift (.load xM (Rect.unit (s := S2x256x768) ![0, 0, 0] S2x256x768.size inb_S2x256x768_S2x256x768_0_0_0).toLoadRect (View.loadsAt_vmem h_S2x256x768))
  pure (shapeCast S512x768 (shapeCast S2x256x768 v shapeCasts_S2x256x768_S2x256x768) shapeCasts_S2x256x768_S512x768)

def loadWq : T F (FVec F S768x512 .bf16) := do
  let v ← Prog.lift (.load wqM (Rect.unit (s := S768x512) ![0, 0] S768x512.size inb_S768x512_S768x512_0_0).toLoadRect (View.loadsAt_vmem h_S768x512))
  pure (shapeCast S768x512 v shapeCasts_S768x512_S768x512)

def loadWo : T F (FVec F S512x768 .bf16) := do
  let v ← Prog.lift (.load woM (Rect.unit (s := S512x768) ![0, 0] S512x768.size inb_S512x768_S512x768_0_0).toLoadRect (View.loadsAt_vmem h_S512x768))
  pure (shapeCast S512x768 v shapeCasts_S512x768_S512x768)

/-- Batch `b`'s keys (or values), one row per local key. -/
def loadKV (M : Memref sig .tc .vmem S2x512x8x64 .bf16) (b : Fin 2) : T F (FVec F S512x512 .bf16) := do
  let v ← Prog.lift (.load M (rK b).toLoadRect (View.loadsAt_vmem h_S1x512x8x64))
  pure (shapeCast S512x512 (shapeCast S512x8x64 v shapeCasts_S1x512x8x64_S512x8x64) shapeCasts_S512x8x64_S512x512)

/-- A store of the kernel: the words it is about to overwrite are read first, for nothing. -/
def putO1 (j i : Fin 4) (w : FVec F S64x256 .bf16) : T F PUnit := do
  let _v : Vec F S1x1x64x256 .bf16 ← Prog.lift (.load oM (rO1 j i).toLoadRect (View.loadsAt_vmem h_S1x1x64x256))
  Prog.lift (.store oM (rO1 j i) (shapeCast S1x1x64x256 w shapeCasts_S64x256_S1x1x64x256) Finset.univ
    (View.stores_vmem h_S1x1x64x256 ((Memref.isWhole_whole _).storeExact_slice rfl _ (packedO1 j i)) (fun _ => rfl)) (.inl rfl))

def putM1 (j i : Fin 4) (r : Fin 2) (w : FVec F S1x256 .f32) : T F PUnit := do
  let _v : Vec F S1x1x1x256 .f32 ← Prog.lift (.load mlM (rM1 j i r).toLoadRect (View.loadsAt_vmem h_S1x1x1x256))
  Prog.lift (.store mlM (rM1 j i r) (shapeCast S1x1x1x256 w shapeCasts_S1x256_S1x1x1x256) Finset.univ
    (View.stores_vmem_bits_univ h_S1x1x1x256 rfl) (.inl rfl))

/-- One head's local attention. -/
def flashHead (j i : Fin 4) (q : FVec F S256x256 .bf16) (k v : FVec F S512x512 .bf16) : T F PUnit := do
  putO1 j i (oOf j i (sOf j i q k) v)
  putM1 j i 0 (mOf (sOf j i q k))
  putM1 j i 1 (lOf (sOf j i q k))

/-- One strip's. -/
def flash (j : Fin 4) (q : FVec F S256x256 .bf16) (k v : FVec F S512x512 .bf16) : T F PUnit := do
  flashHead j 0 q k v
  flashHead j 1 q k v
  flashHead j 2 q k v
  flashHead j 3 q k v

/-- The two transfers of strip `j`'s exchange at step `s`, to the partner `n`. -/
def startX (n : Dev nD) (s : Fin 5) (j : Fin 4) : T F PUnit := do
  Prog.lift (.enqueueDma (oAcc j) (.remote (Dev.tc n) (oRx s j) (.dma (semAt cc0_scratch4 s j))) (.dma (semAt cc0_scratch5 s j))
    (((Memref.isWhole_whole _).wordExact_slice rfl _ (wordsO j)).reshape _ _) (((Memref.isWhole_whole _).wordExact_slice rfl _ (wordsOr s j)).reshape _ _)
    ⟨⟨rfl, Or.inl rfl⟩, trivial⟩)
  Prog.lift (.enqueueDma (mlAcc j) (.remote (Dev.tc n) (mlRx s j) (.dma (semAt cc0_scratch6 s j))) (.dma (semAt cc0_scratch7 s j))
    ((View.wordExact_bits rfl).reshape _ _) ((View.wordExact_bits rfl).reshape _ _) ⟨⟨rfl, Or.inl rfl⟩, trivial⟩)

/-- The four waits of that exchange. -/
def waitX (s : Fin 5) (j : Fin 4) : T F PUnit := do
  Prog.lift (.waitDma2 (semAt cc0_scratch4 s j) (oRx s j) (oAcc j)
    (((Memref.isWhole_whole _).wordExact_slice rfl _ (wordsOr s j)).reshape _ _) (((Memref.isWhole_whole _).wordExact_slice rfl _ (wordsO j)).reshape _ _))
  Prog.lift (.waitDma2 (semAt cc0_scratch5 s j) (oAcc j) (oRx s j)
    (((Memref.isWhole_whole _).wordExact_slice rfl _ (wordsO j)).reshape _ _) (((Memref.isWhole_whole _).wordExact_slice rfl _ (wordsOr s j)).reshape _ _))
  Prog.lift (.waitDma2 (semAt cc0_scratch6 s j) (mlRx s j) (mlAcc j) ((View.wordExact_bits rfl).reshape _ _) ((View.wordExact_bits rfl).reshape _ _))
  Prog.lift (.waitDma2 (semAt cc0_scratch7 s j) (mlAcc j) (mlRx s j) ((View.wordExact_bits rfl).reshape _ _) ((View.wordExact_bits rfl).reshape _ _))

def getM (j : Fin 4) (r : Fin 2) : T F (FVec F S4x1x256 .f32) := do
  let v ← Prog.lift (.load mlM (rMrow j r).toLoadRect (View.loadsAt_vmem h_S1x4x1x256))
  pure (shapeCast S4x1x256 v shapeCasts_S1x4x1x256_S4x1x256)

def getMrx (s : Fin 5) (j : Fin 4) (r : Fin 2) : T F (FVec F S4x1x256 .f32) := do
  let v ← Prog.lift (.load mlrxM (rMrrow s j r).toLoadRect (View.loadsAt_vmem h_S1x1x4x1x256))
  pure (shapeCast S4x1x256 v shapeCasts_S1x1x4x1x256_S4x1x256)

def putM (j : Fin 4) (r : Fin 2) (w : FVec F S4x1x256 .f32) : T F PUnit := do
  let _v : Vec F S1x4x1x256 .f32 ← Prog.lift (.load mlM (rMrow j r).toLoadRect (View.loadsAt_vmem h_S1x4x1x256))
  Prog.lift (.store mlM (rMrow j r) (shapeCast S1x4x1x256 w shapeCasts_S4x1x256_S1x4x1x256) Finset.univ
    (View.stores_vmem_bits_univ h_S1x4x1x256 rfl) (.inl rfl))

def getO (j : Fin 4) : T F (FVec F S4x64x256 .bf16) := do
  let v ← Prog.lift (.load oM (rO j).toLoadRect (View.loadsAt_vmem h_S1x4x64x256))
  pure (shapeCast S4x64x256 v shapeCasts_S1x4x64x256_S4x64x256)

def getOrx (s : Fin 5) (j : Fin 4) : T F (FVec F S4x64x256 .bf16) := do
  let v ← Prog.lift (.load orxM (rOr s j).toLoadRect (View.loadsAt_vmem h_S1x1x4x64x256))
  pure (shapeCast S4x64x256 v shapeCasts_S1x1x4x64x256_S4x64x256)

def putO (j : Fin 4) (w : FVec F S4x64x256 .bf16) : T F PUnit := do
  let _v : Vec F S1x4x64x256 .bf16 ← Prog.lift (.load oM (rO j).toLoadRect (View.loadsAt_vmem h_S1x4x64x256))
  Prog.lift (.store oM (rO j) (shapeCast S1x4x64x256 w shapeCasts_S4x64x256_S1x4x64x256) Finset.univ
    (View.stores_vmem h_S1x4x64x256 ((Memref.isWhole_whole _).storeExact_slice rfl _ (packedO j)) (fun _ => rfl)) (.inl rfl))

/-- Strip `j`'s accumulators combined with what landed at step `s`. -/
def combine (s : Fin 5) (j : Fin 4) : T F PUnit := do
  let m1 ← getM j 0
  let l1 ← getM j 1
  let m2 ← getMrx s j 0
  let l2 ← getMrx s j 1
  putM j 0 (mNew m1 m2)
  putM j 1 (lNew m1 l1 m2 l2)
  let o1 ← getO j
  let o2 ← getOrx s j
  putO j (oNew m1 m2 o1 o2)

def getO1 (j i : Fin 4) : T F (FVec F S64x256 .bf16) := do
  let v ← Prog.lift (.load oM (rO1 j i).toLoadRect (View.loadsAt_vmem h_S1x1x64x256))
  pure (shapeCast S64x256 v shapeCasts_S1x1x64x256_S64x256)

def getOut (b : Fin 2) : T F (FVec F S256x768 .f32) := do
  let v ← Prog.lift (.load outM (rOut b).toLoadRect (View.loadsAt_vmem h_S1x256x768))
  pure (shapeCast S256x768 v shapeCasts_S1x256x768_S256x768)

def putOut (b : Fin 2) (w : FVec F S256x768 .f32) : T F PUnit := do
  let _v : Vec F S1x256x768 .f32 ← Prog.lift (.load outM (rOut b).toLoadRect (View.loadsAt_vmem h_S1x256x768))
  Prog.lift (.store outM (rOut b) (shapeCast S1x256x768 w shapeCasts_S256x768_S1x256x768) Finset.univ (View.stores_vmem_bits_univ h_S1x256x768 rfl) (.inl rfl))

/-- Strip `j` projected. -/
def projectAcc (j : Fin 4) (wo : FVec F S512x768 .bf16) : T F (FVec F S256x768 .f32) := do
  let l ← getM j 1
  let o0 ← getO1 j 0
  let o1 ← getO1 j 1
  let o2 ← getO1 j 2
  let o3 ← getO1 j 3
  pure (accOf j (linvOf l) wo o0 o1 o2 o3)

/-- The first strip of batch `b` written to the result, -/
def projectFirst (b : Fin 2) (j : Fin 4) (wo : FVec F S512x768 .bf16) : T F PUnit := do
  let acc ← projectAcc j wo
  putOut b acc

/-- and the second added to it. -/
def projectSecond (b : Fin 2) (j : Fin 4) (wo : FVec F S512x768 .bf16) : T F PUnit := do
  let acc ← projectAcc j wo
  let out ← getOut b
  putOut b (addf out acc)

/-- One strip's turn at step `s`: its exchange awaited and combined, -/
def turn (s : Fin 5) (j : Fin 4) : T F PUnit := do
  waitX s j
  combine s j

/-- and the next one started. -/
def turnNext (c : Dev nD) (s s' : Fin 5) (j : Fin 4) : T F PUnit := do
  turn s j
  startX (pt (bitOf s' j) c) s' j

/-- The four strips' turns at a step that is not the last. -/
def round (c : Dev nD) (s s' : Fin 5) : T F PUnit := do
  turnNext c s s' 0
  turnNext c s s' 1
  turnNext c s s' 2
  turnNext c s s' 3

/-- The four strips computed, each one's first exchange started behind it. -/
def opening (c : Dev nD) (wq : FVec F S768x512 .bf16) (x : FVec F S512x768 .bf16) (k0 v0 k1 v1 : FVec F S512x512 .bf16) : T F PUnit := do
  flash 0 (qOf 0 wq x) k0 v0
  startX (pt (bitOf 0 0) c) 0 0
  flash 1 (qOf 1 wq x) k0 v0
  startX (pt (bitOf 0 1) c) 0 1
  flash 2 (qOf 2 wq x) k1 v1
  startX (pt (bitOf 0 2) c) 0 2
  flash 3 (qOf 3 wq x) k1 v1
  startX (pt (bitOf 0 3) c) 0 3

/-- The last step, each strip projected behind its turn. -/
def closing (wo : FVec F S512x768 .bf16) : T F PUnit := do
  turn 4 0
  projectFirst 0 0 wo
  turn 4 1
  projectSecond 0 1 wo
  turn 4 2
  projectFirst 1 2 wo
  turn 4 3
  projectSecond 1 3 wo

/-- The whole body. -/
def whole : T F PUnit := do
  let c : Dev nD ← Prog.lift .deviceId
  handshake c
  let x ← loadX
  let wq ← loadWq
  let k0 ← loadKV kM 0
  let v0 ← loadKV vM 0
  let k1 ← loadKV kM 1
  let v1 ← loadKV vM 1
  let wo ← loadWo
  opening c wq x k0 v0 k1 v1
  round c 0 1
  round c 1 2
  round c 2 3
  round c 3 4
  closing wo

end Cert.Butterfly

end
-- ==== Proof.Slots.lean ====
/-
What the kernel's loads read and its stores leave, in terms of what a strip's accumulators hold: a strip's store of one
head replaces that head's part, a load of one head reads it, and so for the two rows (maximum and sum) of the statistics.
-/
module

public import proofs.«01_k».proof.Proof.Segs
public import Idealize.ShloMosaic.Lib.ValueLayout
public import Idealize.ShloMosaic.Lib.VecWindow

@[expose] public section

noncomputable section

namespace Cert.Butterfly

open Idealize.ShloMosaic Idealize.SL.Sem
open Idealize.ShloMosaic.ValueIdx
open Cert.KernelIdeal Cert.KernelIdeal.Gen

variable {F : FTy → Type} [FloatOps F]

/-! ## The contents of a strip -/

/-- `O` with head `i` replaced. -/
def setO (O : FVec F S4x64x256 .bf16) (i : Fin 4) (w : FVec F S64x256 .bf16) : FVec F S4x64x256 .bf16 :=
  fun p => if (p 0).val = i.val then w (ix2 (p 1 : Fin 64) (p 2 : Fin 256)) else O p
/-- Head `i`. -/
def headO (O : FVec F S4x64x256 .bf16) (i : Fin 4) : FVec F S64x256 .bf16 :=
  fun q => O (ix3 i (q 0 : Fin 64) (q 1 : Fin 256))
/-- The statistics with row `r` of head `i` replaced, -/
def setM1 (M : FVec F S4x2x256 .f32) (i : Fin 4) (r : Fin 2) (w : FVec F S1x256 .f32) : FVec F S4x2x256 .f32 :=
  fun p => if (p 0).val = i.val ∧ (p 1).val = r.val then w (ix2 (0 : Fin 1) (p 2 : Fin 256)) else M p
/-- and with row `r` of every head replaced. -/
def setM (M : FVec F S4x2x256 .f32) (r : Fin 2) (w : FVec F S4x1x256 .f32) : FVec F S4x2x256 .f32 :=
  fun p => if (p 1).val = r.val then w (ix3 (p 0 : Fin 4) (0 : Fin 1) (p 2 : Fin 256)) else M p
/-- Row `r` of every head. -/
def rowM (M : FVec F S4x2x256 .f32) (r : Fin 2) : FVec F S4x1x256 .f32 :=
  fun p => M (ix3 (p 0 : Fin 4) r (p 2 : Fin 256))
/-- The result with batch `b` replaced. -/
def setB (D : FVec F S2x256x768 .f32) (b : Fin 2) (w : FVec F S256x768 .f32) : FVec F S2x256x768 .f32 :=
  fun p => if (p 0).val = b.val then w (ix2 (p 1 : Fin 256) (p 2 : Fin 768)) else D p
/-- Batch `b` of the result. -/
def rowB (D : FVec F S2x256x768 .f32) (b : Fin 2) : FVec F S256x768 .f32 :=
  fun q => D (ix3 b (q 0 : Fin 256) (q 1 : Fin 768))

/-! ## Indices by coordinates -/

theorem ex2 {n0 n1 : ℕ} (p : (⟨2, ![n0, n1]⟩ : Shape).Idx) : ∃ (a : Fin n0) (b : Fin n1), p = ix2 a b := ⟨p 0, p 1, eq_ix2 p⟩
theorem ex3 {n0 n1 n2 : ℕ} (p : (⟨3, ![n0, n1, n2]⟩ : Shape).Idx) : ∃ (a : Fin n0) (b : Fin n1) (c : Fin n2), p = ix3 a b c :=
  ⟨p 0, p 1, p 2, eq_ix3 p⟩

/-! ## Where the rectangles lie -/

theorem emb_O (j a : Fin 4) (b : Fin 64) (d : Fin 256) (z : Fin 1) : (rO j).emb (ix4 z a b d) = ix4 j a b d := by
  funext k; refine Fin.ext ?_
  show (![j.val, 0, 0, 0] : Fin 4 → ℕ) k + 1 * (ix4 z a b d k).val = _
  fin_cases k <;> simp
theorem emb_O1 (j i : Fin 4) (b : Fin 64) (d : Fin 256) (z z' : Fin 1) : (rO1 j i).emb (ix4 z z' b d) = ix4 j i b d := by
  funext k; refine Fin.ext ?_
  show (![j.val, i.val, 0, 0] : Fin 4 → ℕ) k + 1 * (ix4 z z' b d k).val = _
  fin_cases k <;> simp
theorem emb_M (j a : Fin 4) (b : Fin 2) (d : Fin 256) (z : Fin 1) : (rM j).emb (ix4 z a b d) = ix4 j a b d := by
  funext k; refine Fin.ext ?_
  show (![j.val, 0, 0, 0] : Fin 4 → ℕ) k + 1 * (ix4 z a b d k).val = _
  fin_cases k <;> simp
theorem emb_M1 (j i : Fin 4) (r : Fin 2) (d : Fin 256) (z z' z'' : Fin 1) : (rM1 j i r).emb (ix4 z z' z'' d) = ix4 j i r d := by
  funext k; refine Fin.ext ?_
  show (![j.val, i.val, r.val, 0] : Fin 4 → ℕ) k + 1 * (ix4 z z' z'' d k).val = _
  fin_cases k <;> simp
theorem emb_Mrow (j : Fin 4) (r : Fin 2) (a : Fin 4) (d : Fin 256) (z z' : Fin 1) : (rMrow j r).emb (ix4 z a z' d) = ix4 j a r d := by
  funext k; refine Fin.ext ?_
  show (![j.val, 0, r.val, 0] : Fin 4 → ℕ) k + 1 * (ix4 z a z' d k).val = _
  fin_cases k <;> simp
theorem emb_Mr (s : Fin 5) (j a : Fin 4) (b : Fin 2) (d : Fin 256) (z z' : Fin 1) : (rMr s j).emb (ix5 z z' a b d) = ix5 s j a b d := by
  funext k; refine Fin.ext ?_
  show (![s.val, j.val, 0, 0, 0] : Fin 5 → ℕ) k + 1 * (ix5 z z' a b d k).val = _
  fin_cases k <;> simp
theorem emb_Mrrow (s : Fin 5) (j : Fin 4) (r : Fin 2) (a : Fin 4) (d : Fin 256) (z z' z'' : Fin 1) :
    (rMrrow s j r).emb (ix5 z z' a z'' d) = ix5 s j a r d := by
  funext k; refine Fin.ext ?_
  show (![s.val, j.val, 0, r.val, 0] : Fin 5 → ℕ) k + 1 * (ix5 z z' a z'' d k).val = _
  fin_cases k <;> simp
theorem emb_Out (b : Fin 2) (q : Fin 256) (d : Fin 768) (z : Fin 1) : (rOut b).emb (ix3 z q d) = ix3 b q d := by
  funext k; refine Fin.ext ?_
  show (![b.val, 0, 0] : Fin 3 → ℕ) k + 1 * (ix3 z q d k).val = _
  fin_cases k <;> simp

/-! ## A strip read through its own memref -/

theorem oAcc_read (j : Fin 4) (f : oM.view.ty.Contents (Elt F)) (a : Fin 4) (b : Fin 64) (d : Fin 256) :
    (oAcc j).view.read (Elt F) f (ix3 a b d) = oM.view.read (Elt F) f (ix4 j a b d) := by
  show oM.view.read (Elt F) f ((rO j).emb (Shape.reshapeEquiv _ (ix3 a b d))) = _
  rw [reshapeEquiv_ix3_1abc, emb_O]
theorem mlAcc_read (j : Fin 4) (f : mlM.view.ty.Contents (Elt F)) (a : Fin 4) (b : Fin 2) (d : Fin 256) :
    (mlAcc j).view.read (Elt F) f (ix3 a b d) = mlM.view.read (Elt F) f (ix4 j a b d) := by
  show mlM.view.read (Elt F) f ((rM j).emb (Shape.reshapeEquiv _ (ix3 a b d))) = _
  rw [reshapeEquiv_ix3_1abc, emb_M]
theorem mlRx_read (s : Fin 5) (j : Fin 4) (f : mlrxM.view.ty.Contents (Elt F)) (a : Fin 4) (b : Fin 2) (d : Fin 256) :
    (mlRx s j).view.read (Elt F) f (ix3 a b d) = mlrxM.view.read (Elt F) f (ix5 s j a b d) := by
  show mlrxM.view.read (Elt F) f ((rMr s j).emb (Shape.reshapeEquiv _ (ix3 a b d))) = _
  rw [reshapeEquiv_ix3_11abc, emb_Mr]

/-! ## The loads -/

theorem getO_eq (j : Fin 4) (f : oM.view.ty.Contents (Elt F)) :
    shapeCast S4x64x256 (oM.view.readAt (Elt F) (rO j).toLoadRect f) shapeCasts_S1x4x64x256_S4x64x256 = (oAcc j).view.read (Elt F) f := rfl
theorem getOrx_eq (s : Fin 5) (j : Fin 4) (f : orxM.view.ty.Contents (Elt F)) :
    shapeCast S4x64x256 (orxM.view.readAt (Elt F) (rOr s j).toLoadRect f) shapeCasts_S1x1x4x64x256_S4x64x256 = (oRx s j).view.read (Elt F) f := rfl
theorem getO1_eq (j i : Fin 4) (f : oM.view.ty.Contents (Elt F)) :
    shapeCast S64x256 (oM.view.readAt (Elt F) (rO1 j i).toLoadRect f) shapeCasts_S1x1x64x256_S64x256 = headO ((oAcc j).view.read (Elt F) f) i := by
  funext q; obtain ⟨a, d, rfl⟩ := ex2 q
  show oM.view.read (Elt F) f ((rO1 j i).emb (Shape.reshapeEquiv _ (ix2 a d))) = (oAcc j).view.read (Elt F) f (ix3 i a d)
  rw [reshapeEquiv_ix2_11ab, emb_O1, oAcc_read]
theorem getM_eq (j : Fin 4) (r : Fin 2) (f : mlM.view.ty.Contents (Elt F)) :
    shapeCast S4x1x256 (mlM.view.readAt (Elt F) (rMrow j r).toLoadRect f) shapeCasts_S1x4x1x256_S4x1x256 = rowM ((mlAcc j).view.read (Elt F) f) r := by
  funext q; obtain ⟨a, z, d, rfl⟩ := ex3 q
  show mlM.view.read (Elt F) f ((rMrow j r).emb (Shape.reshapeEquiv _ (ix3 a z d))) = (mlAcc j).view.read (Elt F) f (ix3 a r d)
  rw [reshapeEquiv_ix3_1abc, emb_Mrow, mlAcc_read]
theorem getMrx_eq (s : Fin 5) (j : Fin 4) (r : Fin 2) (f : mlrxM.view.ty.Contents (Elt F)) :
    shapeCast S4x1x256 (mlrxM.view.readAt (Elt F) (rMrrow s j r).toLoadRect f) shapeCasts_S1x1x4x1x256_S4x1x256 = rowM ((mlRx s j).view.read (Elt F) f) r := by
  funext q; obtain ⟨a, z, d, rfl⟩ := ex3 q
  show mlrxM.view.read (Elt F) f ((rMrrow s j r).emb (Shape.reshapeEquiv _ (ix3 a z d))) = (mlRx s j).view.read (Elt F) f (ix3 a r d)
  rw [reshapeEquiv_ix3_11abc, emb_Mrrow, mlRx_read]
theorem getOut_eq (b : Fin 2) (f : outM.view.ty.Contents (Elt F)) :
    shapeCast S256x768 (outM.view.readAt (Elt F) (rOut b).toLoadRect f) shapeCasts_S1x256x768_S256x768 = rowB (F := F) f b := by
  funext q; obtain ⟨a, d, rfl⟩ := ex2 q
  show f ((rOut b).emb (Shape.reshapeEquiv _ (ix2 a d))) = f (ix3 b a d)
  rw [reshapeEquiv_ix2_1ab, emb_Out]

/-! ## The stores -/

theorem putO_eq (j : Fin 4) (f : oM.view.ty.Contents (Elt F)) (w : FVec F S4x64x256 .bf16) :
    (oAcc j).view.read (Elt F) ((oM.access (rO j)).write (Elt F) f (shapeCast S1x4x64x256 w shapeCasts_S4x64x256_S1x4x64x256) Finset.univ) = w := by
  funext p
  show oM.view.read (Elt F) ((oM.view.slice (rO j)).write (Elt F) f _ Finset.univ) ((rO j).emb (Shape.reshapeEquiv _ p)) = w p
  rw [View.read_slice_write_emb (rO j) f _ (Finset.mem_univ _)]
  show w (Shape.reshapeEquiv _ (Shape.reshapeEquiv _ p)) = w p
  rw [Shape.reshapeEquiv_reshapeEquiv, Shape.reshapeEquiv_self]

theorem putO1_eq (j i : Fin 4) (f : oM.view.ty.Contents (Elt F)) (w : FVec F S64x256 .bf16) :
    (oAcc j).view.read (Elt F) ((oM.access (rO1 j i)).write (Elt F) f (shapeCast S1x1x64x256 w shapeCasts_S64x256_S1x1x64x256) Finset.univ)
      = setO ((oAcc j).view.read (Elt F) f) i w := by
  funext p; obtain ⟨a, b, d, rfl⟩ := ex3 p; rw [oAcc_read]
  show oM.view.read (Elt F) ((oM.view.slice (rO1 j i)).write (Elt F) f _ Finset.univ) (ix4 j a b d)
    = if a.val = i.val then w (ix2 b d) else (oAcc j).view.read (Elt F) f (ix3 a b d)
  by_cases h : a.val = i.val
  · rw [if_pos h, show a = i from Fin.ext h, ← emb_O1 j i b d 0 0,
      View.read_slice_write_emb (rO1 j i) f _ (Finset.mem_univ _)]
    show w (Shape.reshapeEquiv _ (ix4 (0 : Fin 1) (0 : Fin 1) b d)) = _
    rw [show (ix4 (0 : Fin 1) (0 : Fin 1) b d : S1x1x64x256.Idx)
        = Shape.reshapeEquiv (by decide) (ix2 b d : S64x256.Idx) from (reshapeEquiv_ix2_11ab (by decide) _ _).symm,
      Shape.reshapeEquiv_reshapeEquiv, Shape.reshapeEquiv_self]
  · rw [if_neg h, oAcc_read, View.read_slice_write_of_not_mem]
    intro hm
    obtain ⟨x, -, hx⟩ := Finset.mem_map.mp hm
    refine h ?_
    have := congrArg (fun k : S4x4x64x256.Idx => (k 1).val) hx
    have hx1 : (x 1).val = 0 := Nat.lt_one_iff.mp (x 1).isLt
    simp only [Rect.emb_apply] at this
    have h2 : i.val + 1 * (x 1).val = a.val := this
    omega

theorem putM1_eq (j i : Fin 4) (r : Fin 2) (f : mlM.view.ty.Contents (Elt F)) (w : FVec F S1x256 .f32) :
    (mlAcc j).view.read (Elt F) ((mlM.access (rM1 j i r)).write (Elt F) f (shapeCast S1x1x1x256 w shapeCasts_S1x256_S1x1x1x256) Finset.univ)
      = setM1 ((mlAcc j).view.read (Elt F) f) i r w := by
  funext p; obtain ⟨a, b, d, rfl⟩ := ex3 p; rw [mlAcc_read]
  show mlM.view.read (Elt F) ((mlM.view.slice (rM1 j i r)).write (Elt F) f _ Finset.univ) (ix4 j a b d)
    = if a.val = i.val ∧ b.val = r.val then w (ix2 (0 : Fin 1) d) else (mlAcc j).view.read (Elt F) f (ix3 a b d)
  by_cases h : a.val = i.val ∧ b.val = r.val
  · rw [if_pos h, show a = i from Fin.ext h.1, show b = r from Fin.ext h.2, ← emb_M1 j i r d 0 0 0,
      View.read_slice_write_emb (rM1 j i r) f _ (Finset.mem_univ _)]
    show w (Shape.reshapeEquiv _ (ix4 (0 : Fin 1) (0 : Fin 1) (0 : Fin 1) d)) = _
    rw [show (ix4 (0 : Fin 1) (0 : Fin 1) (0 : Fin 1) d : S1x1x1x256.Idx)
        = Shape.reshapeEquiv (by decide) (ix2 (0 : Fin 1) d : S1x256.Idx) from (reshapeEquiv_ix2_11ab (by decide) _ _).symm,
      Shape.reshapeEquiv_reshapeEquiv, Shape.reshapeEquiv_self]
  · rw [if_neg h, mlAcc_read, View.read_slice_write_of_not_mem]
    intro hm
    obtain ⟨x, -, hx⟩ := Finset.mem_map.mp hm
    have h1 : i.val + 1 * (x 1).val = a.val := congrArg (fun k : S4x4x2x256.Idx => (k 1).val) hx
    have h2 : r.val + 1 * (x 2).val = b.val := congrArg (fun k : S4x4x2x256.Idx => (k 2).val) hx
    have hx1 : (x 1).val = 0 := Nat.lt_one_iff.mp (x 1).isLt
    have hx2 : (x 2).val = 0 := Nat.lt_one_iff.mp (x 2).isLt
    exact h ⟨by omega, by omega⟩

theorem putM_eq (j : Fin 4) (r : Fin 2) (f : mlM.view.ty.Contents (Elt F)) (w : FVec F S4x1x256 .f32) :
    (mlAcc j).view.read (Elt F) ((mlM.access (rMrow j r)).write (Elt F) f (shapeCast S1x4x1x256 w shapeCasts_S4x1x256_S1x4x1x256) Finset.univ)
      = setM ((mlAcc j).view.read (Elt F) f) r w := by
  funext p; obtain ⟨a, b, d, rfl⟩ := ex3 p; rw [mlAcc_read]
  show mlM.view.read (Elt F) ((mlM.view.slice (rMrow j r)).write (Elt F) f _ Finset.univ) (ix4 j a b d)
    = if b.val = r.val then w (ix3 a (0 : Fin 1) d) else (mlAcc j).view.read (Elt F) f (ix3 a b d)
  by_cases h : b.val = r.val
  · rw [if_pos h, show b = r from Fin.ext h, ← emb_Mrow j r a d 0 0,
      View.read_slice_write_emb (rMrow j r) f _ (Finset.mem_univ _)]
    show w (Shape.reshapeEquiv _ (ix4 (0 : Fin 1) a (0 : Fin 1) d)) = _
    rw [show (ix4 (0 : Fin 1) a (0 : Fin 1) d : S1x4x1x256.Idx)
        = Shape.reshapeEquiv (by decide) (ix3 a (0 : Fin 1) d : S4x1x256.Idx) from (reshapeEquiv_ix3_1abc (by decide) _ _ _).symm,
      Shape.reshapeEquiv_reshapeEquiv, Shape.reshapeEquiv_self]
  · rw [if_neg h, mlAcc_read, View.read_slice_write_of_not_mem]
    intro hm
    obtain ⟨x, -, hx⟩ := Finset.mem_map.mp hm
    have h2 : r.val + 1 * (x 2).val = b.val := congrArg (fun k : S4x4x2x256.Idx => (k 2).val) hx
    have hx2 : (x 2).val = 0 := Nat.lt_one_iff.mp (x 2).isLt
    exact h (by omega)

theorem putOut_read (b : Fin 2) (f : outM.view.ty.Contents (Elt F)) (w : FVec F S256x768 .f32) :
    outM.view.read (Elt F) ((outM.access (rOut b)).write (Elt F) f (shapeCast S1x256x768 w shapeCasts_S256x768_S1x256x768) Finset.univ)
      = setB (outM.view.read (Elt F) f) b w := by
  funext p; obtain ⟨a, q, d, rfl⟩ := ex3 p
  show outM.view.read (Elt F) ((outM.view.slice (rOut b)).write (Elt F) f _ Finset.univ) (ix3 a q d)
    = if a.val = b.val then w (ix2 q d) else outM.view.read (Elt F) f (ix3 a q d)
  by_cases h : a.val = b.val
  · rw [if_pos h, show a = b from Fin.ext h, ← emb_Out b q d 0,
      View.read_slice_write_emb (rOut b) f _ (Finset.mem_univ _)]
    show w (Shape.reshapeEquiv _ (ix3 (0 : Fin 1) q d)) = _
    rw [show (ix3 (0 : Fin 1) q d : S1x256x768.Idx)
        = Shape.reshapeEquiv (by decide) (ix2 q d : S256x768.Idx) from (reshapeEquiv_ix2_1ab (by decide) _ _).symm,
      Shape.reshapeEquiv_reshapeEquiv, Shape.reshapeEquiv_self]
  · rw [if_neg h, View.read_slice_write_of_not_mem]
    intro hm
    obtain ⟨x, -, hx⟩ := Finset.mem_map.mp hm
    have h2 : b.val + 1 * (x 0).val = a.val := congrArg (fun k : S2x256x768.Idx => (k 0).val) hx
    have hx2 : (x 0).val = 0 := Nat.lt_one_iff.mp (x 0).isLt
    exact h (by omega)

theorem putOut_eq (b : Fin 2) (f : outM.view.ty.Contents (Elt F)) (w : FVec F S256x768 .f32) :
    (outM.access (rOut b)).write (Elt F) f (shapeCast S1x256x768 w shapeCasts_S256x768_S1x256x768) Finset.univ = setB (F := F) f b w := by
  have hr : ∀ g : outM.view.ty.Contents (Elt F), outM.view.read (Elt F) g = g := fun g => View.read_whole (Val := Elt F) (cc0_stg5_0 : Ref sig .tc) g
  have h := putOut_read b f w
  rw [hr f] at h
  exact (hr _).symm.trans h

end Cert.Butterfly

end
-- ==== Proof.Contents.lean ====
/-
What each device's accumulators hold before each exchange: the local attention of its own keys and values first, and after
each exchange the combination of what it held with what its partner held.
-/
module

public import proofs.«01_k».proof.Proof.Slots
public import proofs.«01_k».proof.Proof.Gen.KernelIdeal.Launch

@[expose] public section

noncomputable section

namespace Cert.Butterfly

open Idealize.ShloMosaic Idealize.SL.Sem
open Idealize.ShloMosaic.TcCoe
open Idealize.ShloMosaic.ValueIdx
open Cert.KernelIdeal Cert.KernelIdeal.Gen

variable {F : FTy → Type} [FloatOps F]

/-- A strip's accumulators: the weighted values, and the statistics (row 0 the maximum, row 1 the sum). -/
structure Acc (F : FTy → Type) where
  o : FVec F S4x64x256 .bf16
  ml : FVec F S4x2x256 .f32

/-- The combination of two devices' accumulators of one strip. -/
def merge (a b : Acc F) : Acc F where
  o := oNew (rowM a.ml 0) (rowM b.ml 0) a.o b.o
  ml := setM (setM a.ml 0 (mNew (rowM a.ml 0) (rowM b.ml 0))) 1 (lNew (rowM a.ml 0) (rowM a.ml 1) (rowM b.ml 0) (rowM b.ml 1))

/-- The local attention of strip `j`. -/
def flashAcc (j : Fin 4) (q : FVec F S256x256 .bf16) (k v : FVec F S512x512 .bf16) : Acc F where
  o := fun p => oOf j (p 0 : Fin 4) (sOf j (p 0 : Fin 4) q k) v (ix2 (p 1 : Fin 64) (p 2 : Fin 256))
  ml := fun p => if (p 1).val = 0 then mOf (sOf j (p 0 : Fin 4) q k) (ix2 (0 : Fin 1) (p 2 : Fin 256))
    else lOf (sOf j (p 0 : Fin 4) q k) (ix2 (0 : Fin 1) (p 2 : Fin 256))

/-- Four heads put one after the other make the strip, whatever was there. -/
theorem setO_all (O : FVec F S4x64x256 .bf16) (g : Fin 4 → FVec F S64x256 .bf16) :
    setO (setO (setO (setO O 0 (g 0)) 1 (g 1)) 2 (g 2)) 3 (g 3) = fun p => g (p 0 : Fin 4) (ix2 (p 1 : Fin 64) (p 2 : Fin 256)) := by
  funext p; obtain ⟨a, b, d, rfl⟩ := ex3 p
  show setO (setO (setO (setO O 0 (g 0)) 1 (g 1)) 2 (g 2)) 3 (g 3) (ix3 a b d) = g a (ix2 b d)
  fin_cases a <;> rfl

/-- The same for the two rows of statistics of four heads. -/
theorem setM1_all (M : FVec F S4x2x256 .f32) (g h : Fin 4 → FVec F S1x256 .f32) :
    setM1 (setM1 (setM1 (setM1 (setM1 (setM1 (setM1 (setM1 M 0 0 (g 0)) 0 1 (h 0)) 1 0 (g 1)) 1 1 (h 1)) 2 0 (g 2)) 2 1 (h 2)) 3 0 (g 3)) 3 1 (h 3)
      = fun p => if (p 1).val = 0 then g (p 0 : Fin 4) (ix2 (0 : Fin 1) (p 2 : Fin 256)) else h (p 0 : Fin 4) (ix2 (0 : Fin 1) (p 2 : Fin 256)) := by
  funext p; obtain ⟨a, b, d, rfl⟩ := ex3 p
  fin_cases a <;> fin_cases b <;> rfl

theorem rowB_setB (D : FVec F S2x256x768 .f32) (b : Fin 2) (w : FVec F S256x768 .f32) : rowB (setB D b w) b = w := by
  funext q; obtain ⟨a, d, rfl⟩ := ex2 q
  exact if_pos rfl

/-- Strip `j` of accumulators `A` projected. -/
def projAcc (j : Fin 4) (wo : FVec F S512x768 .bf16) (A : Acc F) : FVec F S256x768 .f32 :=
  accOf j (linvOf (rowM A.ml 1)) wo (headO A.o 0) (headO A.o 1) (headO A.o 2) (headO A.o 3)

/-- The result, from the four strips' accumulators. -/
def outOf (wo : FVec F S512x768 .bf16) (A : Fin 4 → Acc F) : FVec F S2x256x768 .f32 :=
  fun p => if (p 0).val = 0 then addf (projAcc 0 wo (A 0)) (projAcc 1 wo (A 1)) (ix2 (p 1 : Fin 256) (p 2 : Fin 768))
    else addf (projAcc 2 wo (A 2)) (projAcc 3 wo (A 3)) (ix2 (p 1 : Fin 256) (p 2 : Fin 768))

theorem setB_all (D : FVec F S2x256x768 .f32) (w0 w1 w2 w3 : FVec F S256x768 .f32) :
    setB (setB (setB (setB D 0 w0) 0 w1) 1 w2) 1 w3 = fun p => if (p 0).val = 0 then w1 (ix2 (p 1 : Fin 256) (p 2 : Fin 768)) else w3 (ix2 (p 1 : Fin 256) (p 2 : Fin 768)) := by
  funext p; obtain ⟨a, b, d, rfl⟩ := ex3 p
  fin_cases a <;> rfl

/-! ## The staged blocks -/

section Staged
variable (m : (ℓ : Loc nD τ sig) → Buf (Elt F) ℓ) (c : Dev nD)

def xStg : FVec F S2x256x768 .bf16 := (win0_0.blk t0_0).view.read (Elt F) (m ((c : Thread nD τ).loc main_arg0))
def wqStg : FVec F S768x512 .bf16 := (win0_1.blk t0_0).view.read (Elt F) (m ((c : Thread nD τ).loc main_arg1))
def woStg : FVec F S512x768 .bf16 := (win0_2.blk t0_0).view.read (Elt F) (m ((c : Thread nD τ).loc main_arg4))
def kStg : FVec F S2x512x8x64 .bf16 := (win0_3.blk t0_0).view.read (Elt F) (m ((c : Thread nD τ).loc main_arg2))
def vStg : FVec F S2x512x8x64 .bf16 := (win0_4.blk t0_0).view.read (Elt F) (m ((c : Thread nD τ).loc main_arg3))

/-- The activations, one row per (batch, token). -/
def xVal (x : FVec F S2x256x768 .bf16) : FVec F S512x768 .bf16 :=
  shapeCast S512x768 (shapeCast S2x256x768 x shapeCasts_S2x256x768_S2x256x768) shapeCasts_S2x256x768_S512x768
def wqVal (w : FVec F S768x512 .bf16) : FVec F S768x512 .bf16 := shapeCast S768x512 w shapeCasts_S768x512_S768x512
def woVal (w : FVec F S512x768 .bf16) : FVec F S512x768 .bf16 := shapeCast S512x768 w shapeCasts_S512x768_S512x768
/-- Batch `b` of the keys (or values), one row per local key. -/
def kvVal (b : Fin 2) (k : FVec F S2x512x8x64 .bf16) : FVec F S512x512 .bf16 :=
  shapeCast S512x512 (shapeCast S512x8x64 (kM.view.readAt (Elt F) (rK b).toLoadRect k) shapeCasts_S1x512x8x64_S512x8x64) shapeCasts_S512x8x64_S512x512

/-- The batch of strip `j`. -/
def batchOf (j : Fin 4) : Fin 2 := ⟨j.val / 2, by omega⟩

/-- The bit strip `j` crosses at step `s`, the step a number. -/
def bitN (s : ℕ) (j : Fin 4) : Fin 5 := ⟨(s + j.val) % 5, Nat.mod_lt _ (by decide)⟩

/-- What device `c`'s accumulators of strip `j` hold before step `s`. -/
def accN (m : (ℓ : Loc nD τ sig) → Buf (Elt F) ℓ) (j : Fin 4) : ℕ → Dev nD → Acc F
  | 0 => fun c => flashAcc j (qOf j (wqVal (wqStg m c)) (xVal (xStg m c))) (kvVal (batchOf j) (kStg m c)) (kvVal (batchOf j) (vStg m c))
  | s + 1 => fun c => merge (accN m j s c) (accN m j s (pt (bitN s j) c))

/-- The result on device `c`. -/
def outAt : FVec F S2x256x768 .f32 := outOf (woVal (woStg m c)) fun j => accN m j 5 c

end Staged

end Cert.Butterfly

end
-- ==== Proof.Cells.lean ====
/-
The semaphores of the exchanges as cells, and the schedule of what each of them receives: one round per cell, which hands
over the slots at the entry, and with every transfer the accumulators it carries, at the contents `accN` names.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's copy, and the exchanges' (a duty is the bit its payer lies across) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The four arrays of transfer semaphores: send and receive of the weighted values, send and receive of the statistics. -/
def arr : Fin 4 → DmaSems sig S5x4
  | 0 => cc0_scratch4 | 1 => cc0_scratch5 | 2 => cc0_scratch6 | 3 => cc0_scratch7

/-- A transfer semaphore: its array, the step, the strip. -/
abbrev Ch : Type := Fin 4 × Fin 5 × Fin 4

abbrev chSem (x : Ch) : SemLoc sig := .dma (semAt (arr x.1) x.2.1 x.2.2)

theorem semAt_val : ∀ x : Ch, (semAt (arr x.1) x.2.1 x.2.2).val = 6 + (x.1.val * 20 + x.2.1.val * 4 + x.2.2.val) := by decide +kernel

/-- Which transfer semaphore a semaphore is. -/
def decode : SemLoc sig → Option Ch
  | .dma q => if 6 ≤ q.val then some (⟨(q.val - 6) / 20 % 4, Nat.mod_lt _ (by decide)⟩, ⟨(q.val - 6) / 4 % 5, Nat.mod_lt _ (by decide)⟩, ⟨(q.val - 6) % 4, Nat.mod_lt _ (by decide)⟩)
    else none
  | _ => none

theorem decode_ch (x : Ch) : decode (chSem x) = some x := by
  obtain ⟨k, s, j⟩ := x
  have h := semAt_val (k, s, j)
  have hk := k.isLt; have hs := s.isLt; have hj := j.isLt
  dsimp only at h
  unfold decode chSem
  dsimp only
  rw [if_pos (by omega)]
  refine congrArg some (Prod.ext (Fin.ext ?_) (Prod.ext (Fin.ext ?_) (Fin.ext ?_)))
  · show (_ - 6) / 20 % 4 = k.val; omega
  · show (_ - 6) / 4 % 5 = s.val; omega
  · show (_ - 6) % 4 = j.val; omega

theorem decode_bar : decode (.reg barS) = none := rfl

theorem chSem_injective : Function.Injective chSem := fun x y h => Option.some.inj (by rw [← decode_ch x, ← decode_ch y, h])

abbrev barCell (c : Dev nD) : GSem nD τ sig := ((c : Thread nD τ), .reg barS)
abbrev chCell (c : Dev nD) (x : Ch) : GSem nD τ sig := ((c : Thread nD τ), chSem x)

/-- Every cell of a device's: the barrier's, and the transfers'. -/
abbrev csem : Option Ch → SemLoc sig
  | none => .reg barS
  | some x => chSem x
abbrev kcell (ck : Dev nD × Option Ch) : GSem nD τ sig := ((ck.1 : Thread nD τ), csem ck.2)

/-! ## The credits of the two kinds of transfer -/

abbrev NO : ℕ := (oAcc 0).view.dmaCredit
abbrev NM : ℕ := (mlAcc 0).view.dmaCredit
theorem NO_pos : 0 < NO := View.dmaCredit_pos _ (by decide)
theorem NM_pos : 0 < NM := View.dmaCredit_pos _ (by decide)
/-- The units a transfer semaphore receives. -/
def amt (x : Ch) : ℕ := if x.1.val < 2 then NO else NM
theorem amt_pos (x : Ch) : 0 < amt x := by unfold amt; split; exacts [NO_pos, NM_pos]

theorem creditO (j : Fin 4) : (oAcc j).view.dmaCredit = NO := rfl
theorem creditM (j : Fin 4) : (mlAcc j).view.dmaCredit = NM := rfl
theorem creditOr (s : Fin 5) (j : Fin 4) : (oRx s j).view.dmaCredit = NO := rfl
theorem creditMr (s : Fin 5) (j : Fin 4) : (mlRx s j).view.dmaCredit = NM := rfl

/-! ## The slots, by the bit their sender lies across -/

/-- The step at which strip `j` crosses bit `b`. -/
def stepOf (b : Fin 5) (j : Fin 4) : Fin 5 := ⟨(b.val + 5 - j.val) % 5, Nat.mod_lt _ (by decide)⟩

theorem bitOf_stepOf (b : Fin 5) (j : Fin 4) : bitOf (stepOf b j) j = b := by revert b j; decide
theorem stepOf_bitOf (s : Fin 5) (j : Fin 4) : stepOf (bitOf s j) j = s := by revert s j; decide

/-- (bit, strip) and (step, strip). -/
def byBit : Fin 5 × Fin 4 ≃ Fin 5 × Fin 4 :=
  ⟨fun x => (stepOf x.1 x.2, x.2), fun x => (bitOf x.1 x.2, x.2), fun x => by simp only [bitOf_stepOf], fun x => by simp only [stepOf_bitOf]⟩

/-- A device's two slots of an exchange, at any contents. -/
def slot (c : Dev nD) (y : Fin 5 × Fin 4) : sProp 𝕄 :=
  iprop((∃ f, (oRx y.1 y.2).view.loc (c : Thread nD τ) ↦[(oRx y.1 y.2).view.set]{fullShare} f)
    ∗ (∃ f, (mlRx y.1 y.2).view.loc (c : Thread nD τ) ↦[(mlRx y.1 y.2).view.set]{fullShare} f))

omit [FloatOps F] in
set_option synthInstance.maxHeartbeats 400000 in
instance slot_storable (c : Dev nD) (y : Fin 5 × Fin 4) : BI.Storable (upEmb : UEmb _ 𝕄) (slot (F := F) c y) := by unfold slot; infer_instance

/-- What device `c`'s partner across bit `b` hands it at the entry: the partner's slots that `c` will fill. -/
def barPay (c : Dev nD) (b : Fin 5) : sProp 𝕄 := bigSep Finset.univ fun j : Fin 4 => slot (F := F) (pt b c) (stepOf b j, j)

omit [FloatOps F] in
instance barPay_storable (c : Dev nD) (b : Fin 5) : BI.Storable (upEmb : UEmb _ 𝕄) (barPay (F := F) c b) := by unfold barPay; infer_instance

variable (m : (ℓ : Loc nD τ sig) → Buf (Elt F) ℓ) (ρ : Dev nD → PrngReg)

/-- Device `c`'s accumulators of strip `j` before step `s`. -/
def ownO (c : Dev nD) (j : Fin 4) (s : ℕ) : sProp 𝕄 := owns (c : Thread nD τ) (oAcc j) fullShare (accN m j s c).o
def ownM (c : Dev nD) (j : Fin 4) (s : ℕ) : sProp 𝕄 := owns (c : Thread nD τ) (mlAcc j) fullShare (accN m j s c).ml
/-- Its slots of step `s` once the partner's accumulators are in them. -/
def gotO (c : Dev nD) (s : Fin 5) (j : Fin 4) : sProp 𝕄 := owns (c : Thread nD τ) (oRx s j) fullShare (accN m j s.val (pt (bitOf s j) c)).o
def gotM (c : Dev nD) (s : Fin 5) (j : Fin 4) : sProp 𝕄 := owns (c : Thread nD τ) (mlRx s j) fullShare (accN m j s.val (pt (bitOf s j) c)).ml

/-- What the units of a transfer semaphore hand over: the sender's accumulators back, or the slot filled. -/
def chPay (c : Dev nD) (x : Ch) : sProp 𝕄 := match x.1 with
  | 0 => ownO m c x.2.2 x.2.1.val
  | 1 => gotO m c x.2.1 x.2.2
  | 2 => ownM m c x.2.2 x.2.1.val
  | 3 => gotM m c x.2.1 x.2.2

instance chPay_storable (c : Dev nD) (x : Ch) : BI.Storable (upEmb : UEmb _ 𝕄) (chPay m c x) := by
  obtain ⟨k, s, j⟩ := x
  unfold chPay ownO gotO ownM gotM
  fin_cases k <;> infer_instance

/-- One round per cell: the barrier's has a duty per bit, of one unit; a transfer semaphore's one duty, of the transfer's
    credit. -/
def rd : Rounds.Schedule (GSem nD τ sig) (Fin 5) 𝕄 where
  duties g r := if r = 0 ∧ g.1.2 = .tc then (if g.2 = .reg barS then Finset.univ else if (decode g.2).isSome then {0} else ∅) else ∅
  unitless _ := False
  amount g _ _ := match decode g.2 with | some x => amt x | none => 1
  payload g _ d := match decode g.2 with
    | some x => chPay m g.1.1 x
    | none => if g.2 = .reg barS then barPay g.1.1 d else iprop(emp)
  amount_pos g _ _ _ := by split; exacts [amt_pos _, Nat.one_pos]

instance rd_payload_storable (g : GSem nD τ sig) (r : ℕ) (d : Fin 5) : BI.Storable (upEmb : UEmb _ 𝕄) ((rd m).payload g r d) := by
  show BI.Storable upEmb (match decode g.2 with
    | some x => chPay m g.1.1 x
    | none => if g.2 = .reg barS then barPay g.1.1 d else iprop(emp))
  (repeat' split) <;> infer_instance

section Sched
variable (c : Dev nD) (x : Ch)

theorem ch_ne_bar : chSem x ≠ .reg barS := fun h => by cases h

theorem duties_bar : (rd m).duties (barCell c) 0 = Finset.univ := by
  dsimp only [rd]; rw [if_pos ⟨rfl, rfl⟩, if_pos rfl]
theorem duties_ch : (rd m).duties (chCell c x) 0 = {0} := by
  dsimp only [rd]; rw [if_pos ⟨rfl, rfl⟩, if_neg (ch_ne_bar x), decode_ch]; rfl
theorem duties_later (g : GSem nD τ sig) : ∀ r, 1 ≤ r → (rd m).duties g r = ∅ :=
  fun r hr => by dsimp only [rd]; rw [if_neg fun h => by omega]
theorem amount_bar (d : Fin 5) : (rd m).amount (barCell c) 0 d = 1 := rfl
theorem amount_ch (d : Fin 5) : (rd m).amount (chCell c x) 0 d = amt x := by dsimp only [rd]; rw [decode_ch]
theorem expect_bar : (rd m).expect (barCell c) 0 = 5 := by
  unfold Schedule.expect Schedule.amountOf
  rw [duties_bar, Finset.sum_congr rfl fun d _ => amount_bar m c d, Finset.sum_const, Finset.card_univ, Fintype.card_fin, smul_eq_mul]
theorem expect_ch : (rd m).expect (chCell c x) 0 = amt x := by
  unfold Schedule.expect Schedule.amountOf; rw [duties_ch, Finset.sum_singleton, amount_ch]
theorem payload_bar (d : Fin 5) : (rd m).payload (barCell c) 0 d = barPay c d := by
  dsimp only [rd]; rw [decode_bar]; exact if_pos rfl
theorem payload_ch (d : Fin 5) : (rd m).payload (chCell c x) 0 d = chPay m c x := by dsimp only [rd]; rw [decode_ch]

/-- What a device's own barrier round hands it. -/
theorem rest_bar : bigSep ((rd m).duties (barCell c) 0 \ ∅) (fun d => (rd m).payload (barCell c) 0 d)
    = bigSep Finset.univ fun y : Fin 5 × Fin 4 => slot (F := F) (pt (bitOf y.1 y.2) c) y := by
  rw [Finset.sdiff_empty, duties_bar, bigSep_univ_equiv byBit, bigSep_univ_prod]
  refine bigSep_congr fun b _ => ?_
  rw [payload_bar]
  unfold barPay
  refine bigSep_congr fun j _ => ?_
  show slot (pt b c) (stepOf b j, j) = slot (pt (bitOf (stepOf b j) j) c) (stepOf b j, j)
  rw [bitOf_stepOf]
theorem rest_ch : bigSep ((rd m).duties (chCell c x) 0 \ ∅) (fun d => (rd m).payload (chCell c x) 0 d) = chPay m c x := by
  rw [Finset.sdiff_empty, duties_ch, bigSep_singleton, payload_ch]

/-- A device's slots, dealt by the bit their sender lies across: what its partners are handed at the entry. -/
theorem slots_deal : (bigSep Finset.univ fun y : Fin 5 × Fin 4 => slot (F := F) c y)
    = bigSep Finset.univ fun b : Fin 5 => (rd m).payload (barCell (pt b c)) 0 b := by
  rw [bigSep_univ_equiv byBit, bigSep_univ_prod]
  refine bigSep_congr fun b _ => ?_
  rw [payload_bar]
  unfold barPay
  rw [pt_pt]
  rfl

end Sched

/-! ## What a device owes; the levels -/

/-- The units the exchanges of the list, in order, have yet to send to device `c`'s partners. -/
def owedL (c : Dev nD) : List (Fin 5 × Fin 4) → CellTallies nD τ sig Unit
  | [] => 0
  | y :: l => owedL c l + tallyAt (chCell (pt (bitOf y.1 y.2) c) (3, y)) () NM + tallyAt (chCell (pt (bitOf y.1 y.2) c) (1, y)) () NO

theorem owedL_pos {c : Dev nD} {g : GSem nD τ sig} {u : Unit} : ∀ {l : List (Fin 5 × Fin 4)}, 0 < owedL c l g u →
    ∃ y ∈ l, g = chCell (pt (bitOf y.1 y.2) c) (3, y) ∨ g = chCell (pt (bitOf y.1 y.2) c) (1, y)
  | [], h => absurd h (Nat.lt_irrefl 0)
  | y :: l, h => by
    unfold owedL at h
    rw [Pi.add_apply, Finsupp.add_apply, Pi.add_apply, Finsupp.add_apply, tallyAt_apply, tallyAt_apply] at h
    by_cases h3 : g = chCell (pt (bitOf y.1 y.2) c) (3, y)
    · exact ⟨y, List.mem_cons_self, .inl h3⟩
    by_cases h1 : g = chCell (pt (bitOf y.1 y.2) c) (1, y)
    · exact ⟨y, List.mem_cons_self, .inr h1⟩
    rw [if_neg (fun h' => h3 h'.1), if_neg (fun h' => h1 h'.1)] at h
    obtain ⟨z, hz, hg⟩ := owedL_pos (l := l) h
    exact ⟨z, List.mem_cons_of_mem _ hz, hg⟩

/-- The exchanges in the order they are started. -/
def order : List (Fin 5 × Fin 4) :=
  [(0, 0), (0, 1), (0, 2), (0, 3), (1, 0), (1, 1), (1, 2), (1, 3), (2, 0), (2, 1), (2, 2), (2, 3),
    (3, 0), (3, 1), (3, 2), (3, 3), (4, 0), (4, 1), (4, 2), (4, 3)]

/-- What device `c` owes at launch: a unit to each partner's barrier, then every transfer's credit. -/
def barOwed (c : Dev nD) : List (Fin 5) → CellTallies nD τ sig Unit
  | [] => owedL c order
  | b :: l => barOwed c l + tallyAt (barCell (pt b c)) () 1

def O₀ (c : Dev nD) : CellTallies nD τ sig Unit := barOwed c [0, 1, 2, 3, 4]

theorem barOwed_pos {c : Dev nD} {g : GSem nD τ sig} {u : Unit} : ∀ {l : List (Fin 5)}, 0 < barOwed c l g u →
    (∃ b, g = barCell (pt b c)) ∨ 0 < owedL c order g u
  | [], h => .inr h
  | b :: l, h => by
    unfold barOwed at h
    rw [Pi.add_apply, Finsupp.add_apply, tallyAt_apply] at h
    by_cases h1 : g = barCell (pt b c)
    · exact .inl ⟨b, h1⟩
    rw [if_neg (fun h' => h1 h'.1)] at h
    exact barOwed_pos (l := l) h

def L (g : GSem nD τ sig) : Finset Unit := if g.1.2 = .tc then {()} else ∅
/-- The barrier's cells at 1, the receive cells of step `s` at `2 + s`, everything else (staging, send) at 0. -/
def lv (g : GSem nD τ sig) (_ : Unit) : ℕ :=
  match decode g.2 with
  | some x => if x.1.val % 2 = 1 then 2 + x.2.1.val else 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_ch (c : Dev nD) (x : Ch) (u : Unit) : lv (chCell c x) u = if x.1.val % 2 = 1 then 2 + x.2.1.val else 0 := by
  unfold lv; rw [decode_ch]
theorem lv_bar (c : Dev nD) (u : Unit) : lv (barCell c) u = 1 := rfl

/-- A device may wait on a cell below everything it still owes. -/
theorem mayWait_of (c : Dev nD) (sm : SemLoc sig) (n : ℕ) (O : CellTallies nD τ sig Unit) (h0 : lv ((c : Thread nD τ), sm) () = n)
    (h : ∀ g u, 0 < O g u → L g = {()} ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(h g u hg).1]; exact Finset.mem_singleton_self _)
    (fun p hp => by rw [Finset.mem_singleton.mp hp]; exact h0.le)
    (fun g u hg => (h g u hg).2)

theorem owedL_lv {c : Dev nD} {g : GSem nD τ sig} {u : Unit} {l : List (Fin 5 × Fin 4)} (h : 0 < owedL c l g u) :
    ∃ y ∈ l, L g = {()} ∧ lv g () = 2 + y.1.val := by
  obtain ⟨y, hy, rfl | rfl⟩ := owedL_pos h
  · exact ⟨y, hy, L_tc _ _, by rw [lv_ch]; exact if_pos (show (3 : Fin 4).val % 2 = 1 by decide)⟩
  · exact ⟨y, hy, L_tc _ _, by rw [lv_ch]; exact if_pos (show (1 : Fin 4).val % 2 = 1 by decide)⟩

/-- Waiting on a transfer semaphore of step `s` while only later steps' transfers are owed. -/
theorem mayWait_ch (c : Dev nD) (x : Ch) (l : List (Fin 5 × Fin 4)) (hl : ∀ y ∈ l, x.2.1.val < y.1.val) :
    (levAts L lv : sProp 𝕄) ⊢ MayWait (c : Thread nD τ) (chSem x) () (owedL c l) :=
  mayWait_of c _ _ _ rfl fun g u hg => by
    obtain ⟨y, hy, h1, h2⟩ := owedL_lv hg
    have := hl y hy
    refine ⟨h1, ?_⟩
    rw [lv_ch, h2]; split <;> omega

/-- Waiting on the barrier while the transfers are owed. -/
theorem mayWait_bar (c : Dev nD) : (levAts L lv : sProp 𝕄) ⊢ MayWait (c : Thread nD τ) (.reg barS) () (owedL c order) :=
  mayWait_of c _ 1 _ rfl fun g u hg => by
    obtain ⟨y, hy, h1, h2⟩ := owedL_lv hg
    exact ⟨h1, by omega⟩

/-- Waiting on a staging semaphore before the body and after it. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by
    unfold lv decode; dsimp only; rw [if_neg (by omega)]; exact if_neg (fun h => by cases h)
  rcases hO with rfl | rfl
  · refine mayWait_of c _ 0 _ h0 fun g u hg => ?_
    rcases barOwed_pos hg with ⟨b, rfl⟩ | hg
    · exact ⟨L_tc _ _, by rw [lv_bar]; decide⟩
    · obtain ⟨y, hy, h1, h2⟩ := owedL_lv hg
      exact ⟨h1, by omega⟩
  · rw [MayWait_zero]; iintro -; iempintro

end Cert.Butterfly

end
-- ==== Proof.Local.lean ====
/-
What each load and each store of a strip does to the contents the device owns, and the segments made of them alone: the
local attention of a strip, the combination with what has landed, the projection.
-/
module

public import proofs.«01_k».proof.Proof.Cells

@[expose] public section

noncomputable section

namespace Cert.Butterfly

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A kernel program on core `c` reaches `Q`. -/
abbrev wpc (c : Dev nD) {α : Type} (p : T F α) (Q : α → sProp 𝕄) : sProp 𝕄 :=
  wp frame (wpE (defs₀ (F := F)) 𝒱₀ (c : Thread nD τ) none) Set.univ p Q

theorem ex4 {n0 n1 n2 n3 : ℕ} (p : (⟨4, ![n0, n1, n2, n3]⟩ : Shape).Idx) :
    ∃ (a : Fin n0) (b : Fin n1) (d : Fin n2) (e : Fin n3), p = ix4 a b d e := ⟨p 0, p 1, p 2, p 3, eq_ix4 p⟩
theorem ex5 {n0 n1 n2 n3 n4 : ℕ} (p : (⟨5, ![n0, n1, n2, n3, n4]⟩ : Shape).Idx) :
    ∃ (a : Fin n0) (b : Fin n1) (d : Fin n2) (e : Fin n3) (g : Fin n4), p = ix5 a b d e g := ⟨p 0, p 1, p 2, p 3, p 4, eq_ix5 p⟩

/-! ## Where the rectangles' elements lie -/

theorem mem_oAcc (j a : Fin 4) (b : Fin 64) (d : Fin 256) : oM.view.emb (ix4 j a b d) ∈ (oAcc j).view.set :=
  Finset.mem_map.mpr ⟨ix3 a b d, Finset.mem_univ _, by
    show oM.view.emb ((rO j).emb (Shape.reshapeEquiv _ (ix3 a b d))) = _
    rw [reshapeEquiv_ix3_1abc, emb_O]⟩
theorem mem_mlAcc (j a : Fin 4) (b : Fin 2) (d : Fin 256) : mlM.view.emb (ix4 j a b d) ∈ (mlAcc j).view.set :=
  Finset.mem_map.mpr ⟨ix3 a b d, Finset.mem_univ _, by
    show mlM.view.emb ((rM j).emb (Shape.reshapeEquiv _ (ix3 a b d))) = _
    rw [reshapeEquiv_ix3_1abc, emb_M]⟩
theorem mem_mlRx (s : Fin 5) (j a : Fin 4) (b : Fin 2) (d : Fin 256) : mlrxM.view.emb (ix5 s j a b d) ∈ (mlRx s j).view.set :=
  Finset.mem_map.mpr ⟨ix3 a b d, Finset.mem_univ _, by
    show mlrxM.view.emb ((rMr s j).emb (Shape.reshapeEquiv _ (ix3 a b d))) = _
    rw [reshapeEquiv_ix3_11abc, emb_Mr]⟩

theorem sub_O1 (j i : Fin 4) : (oM.access (rO1 j i)).set ⊆ (oAcc j).view.set := by
  intro x hx; obtain ⟨p, -, rfl⟩ := Finset.mem_map.mp hx
  obtain ⟨z, z', b, d, rfl⟩ := ex4 p
  show oM.view.emb ((rO1 j i).emb (ix4 z z' b d)) ∈ _
  rw [emb_O1]; exact mem_oAcc j i b d
theorem sub_O (j : Fin 4) : (oM.access (rO j)).set ⊆ (oAcc j).view.set := by
  intro x hx; obtain ⟨p, -, rfl⟩ := Finset.mem_map.mp hx
  obtain ⟨z, a, b, d, rfl⟩ := ex4 p
  show oM.view.emb ((rO j).emb (ix4 z a b d)) ∈ _
  rw [emb_O]; exact mem_oAcc j a b d
theorem sub_M1 (j i : Fin 4) (r : Fin 2) : (mlM.access (rM1 j i r)).set ⊆ (mlAcc j).view.set := by
  intro x hx; obtain ⟨p, -, rfl⟩ := Finset.mem_map.mp hx
  obtain ⟨z, z', z'', d, rfl⟩ := ex4 p
  show mlM.view.emb ((rM1 j i r).emb (ix4 z z' z'' d)) ∈ _
  rw [emb_M1]; exact mem_mlAcc j i r d
theorem sub_Mrow (j : Fin 4) (r : Fin 2) : (mlM.access (rMrow j r)).set ⊆ (mlAcc j).view.set := by
  intro x hx; obtain ⟨p, -, rfl⟩ := Finset.mem_map.mp hx
  obtain ⟨z, a, z', d, rfl⟩ := ex4 p
  show mlM.view.emb ((rMrow j r).emb (ix4 z a z' d)) ∈ _
  rw [emb_Mrow]; exact mem_mlAcc j a r d
theorem sub_Mrrow (s : Fin 5) (j : Fin 4) (r : Fin 2) : (mlrxM.access (rMrrow s j r)).set ⊆ (mlRx s j).view.set := by
  intro x hx; obtain ⟨p, -, rfl⟩ := Finset.mem_map.mp hx
  obtain ⟨z, z', a, z'', d, rfl⟩ := ex5 p
  show mlrxM.view.emb ((rMrrow s j r).emb (ix5 z z' a z'' d)) ∈ _
  rw [emb_Mrrow]; exact mem_mlRx s j a r d
theorem sub_Or (s : Fin 5) (j : Fin 4) : (orxM.access (rOr s j)).set ⊆ (oRx s j).view.set :=
  (View.set_reshape (orxM.access (rOr s j)) (s' := S4x64x256) _).ge

theorem hz2 : (![0, 0] : Fin 2 → ℕ) = fun _ => 0 := funext fun a => by fin_cases a <;> rfl
theorem hz3 : (![0, 0, 0] : Fin 3 → ℕ) = fun _ => 0 := funext fun a => by fin_cases a <;> rfl

section Specs
variable (c : Dev nD) {α : Type}

theorem getM_spec (j : Fin 4) (r : Fin 2) (A : FVec F S4x2x256 .f32) (k : FVec F S4x1x256 .f32 → T F α) (Q : α → sProp 𝕄) :
    (owns (c : Thread nD τ) (mlAcc j) fullShare A : sProp 𝕄)
      ⊢ iprop((owns (c : Thread nD τ) (mlAcc j) fullShare A -∗ wpc c (k (rowM A r)) Q) -∗ wpc c (getM j r >>= k) Q) := by
  unfold owns getM wpc
  simp only [Prog.lift, Prog.bind_op, Prog.bind_ret, Prog.pure_eq_ret]
  iintro ⟨%f, %hf, H⟩ Hk
  subst hf
  iapply (wp_load_rect 𝒱₀ (c : Thread nD τ) none Set.univ (m := mlM) (r := rMrow j r) (S := (mlAcc j).view.set) (sub_Mrow j r)) $$ H
  iintro H
  rw [← getM_eq]
  iapply Hk
  iexists f; isplitr; · ipureintro; rfl
  iexact H

theorem getMrx_spec (s : Fin 5) (j : Fin 4) (r : Fin 2) (A : FVec F S4x2x256 .f32) (k : FVec F S4x1x256 .f32 → T F α) (Q : α → sProp 𝕄) :
    (owns (c : Thread nD τ) (mlRx s j) fullShare A : sProp 𝕄)
      ⊢ iprop((owns (c : Thread nD τ) (mlRx s j) fullShare A -∗ wpc c (k (rowM A r)) Q) -∗ wpc c (getMrx s j r >>= k) Q) := by
  unfold owns getMrx wpc
  simp only [Prog.lift, Prog.bind_op, Prog.bind_ret, Prog.pure_eq_ret]
  iintro ⟨%f, %hf, H⟩ Hk
  subst hf
  iapply (wp_load_rect 𝒱₀ (c : Thread nD τ) none Set.univ (m := mlrxM) (r := rMrrow s j r) (S := (mlRx s j).view.set) (sub_Mrrow s j r)) $$ H
  iintro H
  rw [← getMrx_eq]
  iapply Hk
  iexists f; isplitr; · ipureintro; rfl
  iexact H

theorem getO_spec (j : Fin 4) (A : FVec F S4x64x256 .bf16) (k : FVec F S4x64x256 .bf16 → T F α) (Q : α → sProp 𝕄) :
    (owns (c : Thread nD τ) (oAcc j) fullShare A : sProp 𝕄)
      ⊢ iprop((owns (c : Thread nD τ) (oAcc j) fullShare A -∗ wpc c (k A) Q) -∗ wpc c (getO j >>= k) Q) := by
  unfold owns getO wpc
  simp only [Prog.lift, Prog.bind_op, Prog.bind_ret, Prog.pure_eq_ret]
  iintro ⟨%f, %hf, H⟩ Hk
  subst hf
  iapply (wp_load_rect 𝒱₀ (c : Thread nD τ) none Set.univ (m := oM) (r := rO j) (S := (oAcc j).view.set) (sub_O j)) $$ H
  iintro H
  rw [← getO_eq]
  iapply Hk
  iexists f; isplitr; · ipureintro; rfl
  iexact H

theorem getOrx_spec (s : Fin 5) (j : Fin 4) (A : FVec F S4x64x256 .bf16) (k : FVec F S4x64x256 .bf16 → T F α) (Q : α → sProp 𝕄) :
    (owns (c : Thread nD τ) (oRx s j) fullShare A : sProp 𝕄)
      ⊢ iprop((owns (c : Thread nD τ) (oRx s j) fullShare A -∗ wpc c (k A) Q) -∗ wpc c (getOrx s j >>= k) Q) := by
  unfold owns getOrx wpc
  simp only [Prog.lift, Prog.bind_op, Prog.bind_ret, Prog.pure_eq_ret]
  iintro ⟨%f, %hf, H⟩ Hk
  subst hf
  iapply (wp_load_rect 𝒱₀ (c : Thread nD τ) none Set.univ (m := orxM) (r := rOr s j) (S := (oRx s j).view.set) (sub_Or s j)) $$ H
  iintro H
  rw [← getOrx_eq]
  iapply Hk
  iexists f; isplitr; · ipureintro; rfl
  iexact H

theorem getO1_spec (j i : Fin 4) (A : FVec F S4x64x256 .bf16) (k : FVec F S64x256 .bf16 → T F α) (Q : α → sProp 𝕄) :
    (owns (c : Thread nD τ) (oAcc j) fullShare A : sProp 𝕄)
      ⊢ iprop((owns (c : Thread nD τ) (oAcc j) fullShare A -∗ wpc c (k (headO A i)) Q) -∗ wpc c (getO1 j i >>= k) Q) := by
  unfold owns getO1 wpc
  simp only [Prog.lift, Prog.bind_op, Prog.bind_ret, Prog.pure_eq_ret]
  iintro ⟨%f, %hf, H⟩ Hk
  subst hf
  iapply (wp_load_rect 𝒱₀ (c : Thread nD τ) none Set.univ (m := oM) (r := rO1 j i) (S := (oAcc j).view.set) (sub_O1 j i)) $$ H
  iintro H
  rw [← getO1_eq]
  iapply Hk
  iexists f; isplitr; · ipureintro; rfl
  iexact H

theorem putO1_spec (j i : Fin 4) (w : FVec F S64x256 .bf16) (A : FVec F S4x64x256 .bf16) (k : PUnit → T F α) (Q : α → sProp 𝕄) :
    (owns (c : Thread nD τ) (oAcc j) fullShare A : sProp 𝕄)
      ⊢ iprop((owns (c : Thread nD τ) (oAcc j) fullShare (setO A i w) -∗ wpc c (k ⟨⟩) Q) -∗ wpc c (putO1 j i w >>= k) Q) := by
  unfold owns putO1 wpc
  simp only [Prog.lift, Prog.bind_op, Prog.bind_ret, Prog.pure_eq_ret]
  iintro ⟨%f, %hf, H⟩ Hk
  subst hf
  iapply (wp_load_rect 𝒱₀ (c : Thread nD τ) none Set.univ (m := oM) (r := rO1 j i) (S := (oAcc j).view.set) (sub_O1 j i)) $$ H
  iintro H
  iapply (wp_store 𝒱₀ (c : Thread nD τ) none Set.univ (m := oM) (r := rO1 j i) (Mk := Finset.univ) (S := (oAcc j).view.set) (sub_O1 j i)) $$ H
  iintro H
  iapply Hk
  iexists _; isplitr
  · ipureintro; exact putO1_eq j i f w
  iexact H

theorem putO_spec (j : Fin 4) (w : FVec F S4x64x256 .bf16) (A : FVec F S4x64x256 .bf16) (k : PUnit → T F α) (Q : α → sProp 𝕄) :
    (owns (c : Thread nD τ) (oAcc j) fullShare A : sProp 𝕄)
      ⊢ iprop((owns (c : Thread nD τ) (oAcc j) fullShare w -∗ wpc c (k ⟨⟩) Q) -∗ wpc c (putO j w >>= k) Q) := by
  unfold owns putO wpc
  simp only [Prog.lift, Prog.bind_op, Prog.bind_ret, Prog.pure_eq_ret]
  iintro ⟨%f, %hf, H⟩ Hk
  subst hf
  iapply (wp_load_rect 𝒱₀ (c : Thread nD τ) none Set.univ (m := oM) (r := rO j) (S := (oAcc j).view.set) (sub_O j)) $$ H
  iintro H
  iapply (wp_store 𝒱₀ (c : Thread nD τ) none Set.univ (m := oM) (r := rO j) (Mk := Finset.univ) (S := (oAcc j).view.set) (sub_O j)) $$ H
  iintro H
  iapply Hk
  iexists _; isplitr
  · ipureintro; exact putO_eq j f w
  iexact H

theorem putM1_spec (j i : Fin 4) (r : Fin 2) (w : FVec F S1x256 .f32) (A : FVec F S4x2x256 .f32) (k : PUnit → T F α) (Q : α → sProp 𝕄) :
    (owns (c : Thread nD τ) (mlAcc j) fullShare A : sProp 𝕄)
      ⊢ iprop((owns (c : Thread nD τ) (mlAcc j) fullShare (setM1 A i r w) -∗ wpc c (k ⟨⟩) Q) -∗ wpc c (putM1 j i r w >>= k) Q) := by
  unfold owns putM1 wpc
  simp only [Prog.lift, Prog.bind_op, Prog.bind_ret, Prog.pure_eq_ret]
  iintro ⟨%f, %hf, H⟩ Hk
  subst hf
  iapply (wp_load_rect 𝒱₀ (c : Thread nD τ) none Set.univ (m := mlM) (r := rM1 j i r) (S := (mlAcc j).view.set) (sub_M1 j i r)) $$ H
  iintro H
  iapply (wp_store 𝒱₀ (c : Thread nD τ) none Set.univ (m := mlM) (r := rM1 j i r) (Mk := Finset.univ) (S := (mlAcc j).view.set) (sub_M1 j i r)) $$ H
  iintro H
  iapply Hk
  iexists _; isplitr
  · ipureintro; exact putM1_eq j i r f w
  iexact H

theorem putM_spec (j : Fin 4) (r : Fin 2) (w : FVec F S4x1x256 .f32) (A : FVec F S4x2x256 .f32) (k : PUnit → T F α) (Q : α → sProp 𝕄) :
    (owns (c : Thread nD τ) (mlAcc j) fullShare A : sProp 𝕄)
      ⊢ iprop((owns (c : Thread nD τ) (mlAcc j) fullShare (setM A r w) -∗ wpc c (k ⟨⟩) Q) -∗ wpc c (putM j r w >>= k) Q) := by
  unfold owns putM wpc
  simp only [Prog.lift, Prog.bind_op, Prog.bind_ret, Prog.pure_eq_ret]
  iintro ⟨%f, %hf, H⟩ Hk
  subst hf
  iapply (wp_load_rect 𝒱₀ (c : Thread nD τ) none Set.univ (m := mlM) (r := rMrow j r) (S := (mlAcc j).view.set) (sub_Mrow j r)) $$ H
  iintro H
  iapply (wp_store 𝒱₀ (c : Thread nD τ) none Set.univ (m := mlM) (r := rMrow j r) (Mk := Finset.univ) (S := (mlAcc j).view.set) (sub_Mrow j r)) $$ H
  iintro H
  iapply Hk
  iexists _; isplitr
  · ipureintro; exact putM_eq j r f w
  iexact H

/-- Device `c`'s copy of the staging buffer `b` holds `X`. -/
abbrev stg (c : Dev nD) (b : Ref sig .tc) (X : b.ty.Contents (Elt F)) : sProp 𝕄 := ((c : Thread nD τ).loc b) ↦{fullShare} X

theorem loadX_spec  (X : FVec F S2x256x768 .bf16) (k : FVec F S512x768 .bf16 → T F α) (Q : α → sProp 𝕄) :
    (stg c cc0_stg0_0 X : sProp 𝕄) ⊢ iprop((stg c cc0_stg0_0 X -∗ wpc c (k (xVal X)) Q) -∗ wpc c (loadX >>= k) Q) := by
  unfold loadX wpc
  simp only [Prog.lift, Prog.bind_op, Prog.bind_ret, Prog.pure_eq_ret]
  iintro H Hk
  iapply (wp_load 𝒱₀ (c : Thread nD τ) none Set.univ (m := xM) (S := Finset.univ) (Finset.subset_univ _)) $$ H
  iintro H
  rw [show xM.view.readAt (Elt F) _ X = X from Memref.readAt_unit_zero (Elt F) cc0_stg0_0 hz3 _ X]
  iapply Hk
  iexact H

theorem loadWq_spec  (X : FVec F S768x512 .bf16) (k : FVec F S768x512 .bf16 → T F α) (Q : α → sProp 𝕄) :
    (stg c cc0_stg1_0 X : sProp 𝕄) ⊢ iprop((stg c cc0_stg1_0 X -∗ wpc c (k (wqVal X)) Q) -∗ wpc c (loadWq >>= k) Q) := by
  unfold loadWq wpc
  simp only [Prog.lift, Prog.bind_op, Prog.bind_ret, Prog.pure_eq_ret]
  iintro H Hk
  iapply (wp_load 𝒱₀ (c : Thread nD τ) none Set.univ (m := wqM) (S := Finset.univ) (Finset.subset_univ _)) $$ H
  iintro H
  rw [show wqM.view.readAt (Elt F) _ X = X from Memref.readAt_unit_zero (Elt F) cc0_stg1_0 hz2 _ X]
  iapply Hk
  iexact H

theorem loadWo_spec  (X : FVec F S512x768 .bf16) (k : FVec F S512x768 .bf16 → T F α) (Q : α → sProp 𝕄) :
    (stg c cc0_stg2_0 X : sProp 𝕄) ⊢ iprop((stg c cc0_stg2_0 X -∗ wpc c (k (woVal X)) Q) -∗ wpc c (loadWo >>= k) Q) := by
  unfold loadWo wpc
  simp only [Prog.lift, Prog.bind_op, Prog.bind_ret, Prog.pure_eq_ret]
  iintro H Hk
  iapply (wp_load 𝒱₀ (c : Thread nD τ) none Set.univ (m := woM) (S := Finset.univ) (Finset.subset_univ _)) $$ H
  iintro H
  rw [show woM.view.readAt (Elt F) _ X = X from Memref.readAt_unit_zero (Elt F) cc0_stg2_0 hz2 _ X]
  iapply Hk
  iexact H

theorem loadK_spec (b : Fin 2) (X : FVec F S2x512x8x64 .bf16) (k : FVec F S512x512 .bf16 → T F α) (Q : α → sProp 𝕄) :
    (stg c cc0_stg3_0 X : sProp 𝕄) ⊢ iprop((stg c cc0_stg3_0 X -∗ wpc c (k (kvVal b X)) Q) -∗ wpc c (loadKV kM b >>= k) Q) := by
  unfold loadKV wpc
  simp only [Prog.lift, Prog.bind_op, Prog.bind_ret, Prog.pure_eq_ret]
  iintro H Hk
  iapply (wp_load 𝒱₀ (c : Thread nD τ) none Set.univ (m := kM) (S := Finset.univ) (Finset.subset_univ _)) $$ H
  iintro H
  iapply Hk
  iexact H

theorem loadV_spec (b : Fin 2) (X : FVec F S2x512x8x64 .bf16) (k : FVec F S512x512 .bf16 → T F α) (Q : α → sProp 𝕄) :
    (stg c cc0_stg4_0 X : sProp 𝕄) ⊢ iprop((stg c cc0_stg4_0 X -∗ wpc c (k (kvVal b X)) Q) -∗ wpc c (loadKV vM b >>= k) Q) := by
  unfold loadKV wpc
  simp only [Prog.lift, Prog.bind_op, Prog.bind_ret, Prog.pure_eq_ret]
  iintro H Hk
  iapply (wp_load 𝒱₀ (c : Thread nD τ) none Set.univ (m := vM) (S := Finset.univ) (Finset.subset_univ _)) $$ H
  iintro H
  iapply Hk
  iexact H

theorem getOut_spec (b : Fin 2) (X : FVec F S2x256x768 .f32) (k : FVec F S256x768 .f32 → T F α) (Q : α → sProp 𝕄) :
    (stg c cc0_stg5_0 X : sProp 𝕄) ⊢ iprop((stg c cc0_stg5_0 X -∗ wpc c (k (rowB X b)) Q) -∗ wpc c (getOut b >>= k) Q) := by
  unfold getOut wpc
  simp only [Prog.lift, Prog.bind_op, Prog.bind_ret, Prog.pure_eq_ret]
  iintro H Hk
  iapply (wp_load 𝒱₀ (c : Thread nD τ) none Set.univ (m := outM) (S := Finset.univ) (Finset.subset_univ _)) $$ H
  iintro H
  rw [getOut_eq]
  iapply Hk
  iexact H

theorem putOut_spec (b : Fin 2) (w : FVec F S256x768 .f32) (X : FVec F S2x256x768 .f32) (k : PUnit → T F α) (Q : α → sProp 𝕄) :
    (stg c cc0_stg5_0 X : sProp 𝕄) ⊢ iprop((stg c cc0_stg5_0 (setB (F := F) X b w) -∗ wpc c (k ⟨⟩) Q) -∗ wpc c (putOut b w >>= k) Q) := by
  unfold putOut wpc
  simp only [Prog.lift, Prog.bind_op, Prog.bind_ret, Prog.pure_eq_ret]
  iintro H Hk
  iapply (wp_load 𝒱₀ (c : Thread nD τ) none Set.univ (m := outM) (S := Finset.univ) (Finset.subset_univ _)) $$ H
  iintro H
  iapply (wp_store 𝒱₀ (c : Thread nD τ) none Set.univ (m := outM) (r := rOut b) (Mk := Finset.univ) (S := Finset.univ) (Finset.subset_univ _)) $$ H
  iintro H
  rw [putOut_eq]
  iapply Hk
  iexact H

/-! ## The segments -/

/-- A strip's accumulators on device `c`, at contents `A`. -/
def accs (c : Dev nD) (j : Fin 4) (A : Acc F) : sProp 𝕄 :=
  iprop(owns (c : Thread nD τ) (oAcc j) fullShare A.o ∗ owns (c : Thread nD τ) (mlAcc j) fullShare A.ml)

theorem flashHead_spec (j i : Fin 4) (q : FVec F S256x256 .bf16) (kk v : FVec F S512x512 .bf16) (A : Acc F) (k : PUnit → T F α) (Q : α → sProp 𝕄) :
    (accs c j A : sProp 𝕄) ⊢ iprop((accs c j ⟨setO A.o i (oOf j i (sOf j i q kk) v), setM1 (setM1 A.ml i 0 (mOf (sOf j i q kk))) i 1 (lOf (sOf j i q kk))⟩
      -∗ wpc c (k ⟨⟩) Q) -∗ wpc c (flashHead j i q kk v >>= k) Q) := by
  unfold accs flashHead
  simp only [bind_assoc]
  iintro ⟨Ho, Hm⟩ Hk
  iapply (putO1_spec c) $$ Ho; iintro Ho
  iapply (putM1_spec c) $$ Hm; iintro Hm
  iapply (putM1_spec c) $$ Hm; iintro Hm
  iapply Hk
  isplitl [Ho] <;> iassumption

theorem flash_spec (j : Fin 4) (q : FVec F S256x256 .bf16) (kk v : FVec F S512x512 .bf16) (A : Acc F) (k : PUnit → T F α) (Q : α → sProp 𝕄) :
    (accs c j A : sProp 𝕄) ⊢ iprop((accs c j (flashAcc j q kk v) -∗ wpc c (k ⟨⟩) Q) -∗ wpc c (flash j q kk v >>= k) Q) := by
  unfold flash
  simp only [bind_assoc]
  iintro H Hk
  iapply (flashHead_spec c) $$ H; iintro H
  iapply (flashHead_spec c) $$ H; iintro H
  iapply (flashHead_spec c) $$ H; iintro H
  iapply (flashHead_spec c) $$ H; iintro H
  iapply Hk
  rw [setO_all A.o (fun i => oOf j i (sOf j i q kk) v), setM1_all A.ml (fun i => mOf (sOf j i q kk)) (fun i => lOf (sOf j i q kk))]
  iexact H

theorem combine_spec (s : Fin 5) (j : Fin 4) (A B : Acc F) (k : PUnit → T F α) (Q : α → sProp 𝕄) :
    iprop(accs c j A ∗ owns (c : Thread nD τ) (oRx s j) fullShare B.o ∗ owns (c : Thread nD τ) (mlRx s j) fullShare B.ml)
      ⊢ iprop(((accs c j (merge A B) ∗ owns (c : Thread nD τ) (oRx s j) fullShare B.o ∗ owns (c : Thread nD τ) (mlRx s j) fullShare B.ml)
        -∗ wpc c (k ⟨⟩) Q) -∗ wpc c (combine s j >>= k) Q) := by
  unfold accs combine
  simp only [bind_assoc]
  iintro ⟨⟨Ho, Hm⟩, Hor, Hmr⟩ Hk
  iapply (getM_spec c) $$ Hm; iintro Hm
  iapply (getM_spec c) $$ Hm; iintro Hm
  iapply (getMrx_spec c) $$ Hmr; iintro Hmr
  iapply (getMrx_spec c) $$ Hmr; iintro Hmr
  iapply (putM_spec c) $$ Hm; iintro Hm
  iapply (putM_spec c) $$ Hm; iintro Hm
  iapply (getO_spec c) $$ Ho; iintro Ho
  iapply (getOrx_spec c) $$ Hor; iintro Hor
  iapply (putO_spec c) $$ Ho; iintro Ho
  iapply Hk
  isplitl [Ho Hm]
  · isplitl [Ho]; · iexact Ho
    iexact Hm
  isplitl [Hor] <;> iassumption

theorem projectAcc_spec (j : Fin 4) (wo : FVec F S512x768 .bf16) (A : Acc F) (k : FVec F S256x768 .f32 → T F α) (Q : α → sProp 𝕄) :
    (accs c j A : sProp 𝕄) ⊢ iprop((accs c j A -∗ wpc c (k (projAcc j wo A)) Q) -∗ wpc c (projectAcc j wo >>= k) Q) := by
  unfold accs projectAcc
  simp only [bind_assoc, pure_bind]
  iintro ⟨Ho, Hm⟩ Hk
  iapply (getM_spec c) $$ Hm; iintro Hm
  iapply (getO1_spec c) $$ Ho; iintro Ho
  iapply (getO1_spec c) $$ Ho; iintro Ho
  iapply (getO1_spec c) $$ Ho; iintro Ho
  iapply (getO1_spec c) $$ Ho; iintro Ho
  iapply Hk
  isplitl [Ho] <;> iassumption

theorem projectFirst_spec (b : Fin 2) (j : Fin 4) (wo : FVec F S512x768 .bf16) (A : Acc F) (X : FVec F S2x256x768 .f32) (k : PUnit → T F α)
    (Q : α → sProp 𝕄) :
    iprop(accs c j A ∗ stg c cc0_stg5_0 X)
      ⊢ iprop(((accs c j A ∗ stg c cc0_stg5_0 (setB (F := F) X b (projAcc j wo A))) -∗ wpc c (k ⟨⟩) Q) -∗ wpc c (projectFirst b j wo >>= k) Q) := by
  unfold projectFirst
  simp only [bind_assoc]
  iintro ⟨Ha, Hx⟩ Hk
  iapply (projectAcc_spec c) $$ Ha; iintro Ha
  iapply (putOut_spec c) $$ Hx; iintro Hx
  iapply Hk
  isplitl [Ha] <;> iassumption

theorem projectSecond_spec (b : Fin 2) (j : Fin 4) (wo : FVec F S512x768 .bf16) (A : Acc F) (X : FVec F S2x256x768 .f32) (k : PUnit → T F α)
    (Q : α → sProp 𝕄) :
    iprop(accs c j A ∗ stg c cc0_stg5_0 X)
      ⊢ iprop(((accs c j A ∗ stg c cc0_stg5_0 (setB (F := F) X b (addf (rowB (F := F) X b) (projAcc j wo A)))) -∗ wpc c (k ⟨⟩) Q)
        -∗ wpc c (projectSecond b j wo >>= k) Q) := by
  unfold projectSecond
  simp only [bind_assoc]
  iintro ⟨Ha, Hx⟩ Hk
  iapply (projectAcc_spec c) $$ Ha; iintro Ha
  iapply (getOut_spec c) $$ Hx; iintro Hx
  iapply (putOut_spec c) $$ Hx; iintro Hx
  iapply Hk
  isplitl [Ha] <;> iassumption

end Specs

end Cert.Butterfly

end
-- ==== Proof.Exchange.lean ====
/-
The segments that talk to the partner: the handshake, an exchange started, an exchange awaited and combined.
-/
module

public import proofs.«01_k».proof.Proof.Local

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Ch → ℕ)

/-- What every device knows of every cell: its invariant, under the name it was allocated at, and that its round 0 is
    reached. -/
def records : sProp 𝕄 := bigSep Finset.univ fun ck : Dev nD × Option Ch =>
  iprop(cellInv ER (rd m) (K ck) (kcell ck) ∗ reached ER (kcell ck) 0)

instance records_persistent : BI.Persistent (records m K) := by unfold records; infer_instance

theorem records_ch (c : Dev nD) (x : Ch) : records m K ⊢ iprop(cellInv ER (rd m) (K (c, some x)) (chCell c x) ∗ reached ER (chCell c x) 0) :=
  bigSep_elim (Φ := fun ck : Dev nD × Option Ch => iprop(cellInv ER (rd m) (K ck) (kcell ck) ∗ reached ER (kcell ck) 0)) (Finset.mem_univ (c, some x))
theorem records_bar (c : Dev nD) : records m K ⊢ iprop(cellInv ER (rd m) (K (c, none)) (barCell c) ∗ reached ER (barCell c) 0) :=
  bigSep_elim (Φ := fun ck : Dev nD × Option Ch => iprop(cellInv ER (rd m) (K ck) (kcell ck) ∗ reached ER (kcell ck) 0)) (Finset.mem_univ (c, none))

theorem duty_ch (c : Dev nD) (x : Ch) : (0 : Fin 5) ∈ (rd m).duties (chCell c x) 0 := by rw [duties_ch]; exact Finset.mem_singleton_self _

/-- What device `c` owes, whatever it has waited on. -/
def owesX (c : Dev nD) (O : CellTallies nD τ sig Unit) : sProp 𝕄 := iprop(∃ W, owes (c : Thread nD τ) O W)

/-- One transfer of owned contents `X` to an owned slot of device `n`'s, for any memrefs and semaphores. -/
theorem send_owned {sh : Shape} {e : EltTy} (src dst : Memref sig .tc .vmem sh e) (c n : Dev nD) (sS sR : DmaSem sig) (N : ℕ) (X : sh.Idx → Elt F e)
    (hN : dst.view.dmaCredit = N)
    (hd₁ : (0 : Fin 5) ∈ (rd m).duties ((c : Thread nD τ), .dma sS) 0) (hd₂ : (0 : Fin 5) ∈ (rd m).duties ((n : Thread nD τ), .dma sR) 0)
    (hk₁ : (rd m).amount ((c : Thread nD τ), .dma sS) 0 0 = N) (hk₂ : (rd m).amount ((n : Thread nD τ), .dma sR) 0 0 = N)
    (h₁ : (owns (c : Thread nD τ) src fullShare X : sProp 𝕄) ⊢ (rd m).payload ((c : Thread nD τ), .dma sS) 0 0)
    (h₂ : (owns (n : Thread nD τ) dst fullShare X : sProp 𝕄) ⊢ (rd m).payload ((n : Thread nD τ), .dma sR) 0 0)
    {hsc : dst.view.ref.isScScratch = false} {hsrc : src.view.WordExact} {hdst : dst.view.WordExact}
    {hsem : DmaTarget.Typed .vmem (.dma sR) (.remote (Dev.tc n : Thread nD τ) dst (.dma sS) hsc)}
    (κ₁ κ₂ : ℕ) (O : CellTallies nD τ sig Unit) (W : Waits sig Unit) {α : Type} (k : PUnit → T F α) (Q : α → sProp 𝕄) :
    iprop(cellInv ER (rd m) κ₁ ((c : Thread nD τ), .dma sS) ∗ cellInv ER (rd m) κ₂ ((n : Thread nD τ), .dma sR)
        ∗ owns (c : Thread nD τ) src fullShare X ∗ (∃ f, dst.view.loc (n : Thread nD τ) ↦[dst.view.set]{fullShare} f)
        ∗ owes (c : Thread nD τ) (O + tallyAt ((n : Thread nD τ), .dma sR) () N) W
        ∗ dutyTok ER ((c : Thread nD τ), .dma sS) 0 0 ∗ reached ER ((c : Thread nD τ), .dma sS) 0
        ∗ dutyTok ER ((n : Thread nD τ), .dma sR) 0 0 ∗ reached ER ((n : Thread nD τ), .dma sR) 0)
      ⊢ iprop(((cred (tallyAt ((c : Thread nD τ), .dma sS) () N) ∗ owes (c : Thread nD τ) O W) -∗ wpc c (k ⟨⟩) Q)
          -∗ wpc c (.op (.enqueueDma src (.remote (Dev.tc n : Thread nD τ) dst (.dma sS) hsc) (.dma sR) hsrc hdst hsem) k) Q) := by
  iintro ⟨Hi0, Hi1, Hs, ⟨%fd, Hd⟩, H⟩
  unfold owns at h₁ h₂ ⊢
  icases Hs with ⟨%fs, %hfs, Hs⟩
  iapply (Rounds.wp_send_pointsTo (c' := (n : Thread nD τ)) (dst := dst) 𝒱₀ ER (rd m) (c : Thread nD τ) none (κ₁ := κ₁) (κ₂ := κ₂)
    (r₁ := 0) (r₂ := 0) (d₁ := 0) (d₂ := 0) (fs := fs) (fd := fd) (src := src) (q := fullShare)
    hd₁ hd₂ () () N hN hk₁ hk₂ O rfl (W := W)
    (Entails.trans (by iintro H; iexists fs; isplitr; · ipureintro; exact hfs
                       iexact H) h₁)
    (Entails.trans (by iintro H; iexists (dst.view.write (Elt F) fd (src.view.read (Elt F) fs) Finset.univ)
                       isplitr; · ipureintro; exact (View.read_write_univ _ _).trans hfs
                       iexact H) h₂))
  isplitl [Hi0]; · iexact Hi0
  isplitl [Hi1]; · iexact Hi1
  isplitl [Hs]; · iexact Hs
  isplitl [Hd]; · iexact Hd
  iexact H

section Start
variable (c : Dev nD) (s : Fin 5) (j : Fin 4) {α : Type}

/-- The tokens of the duties a device pays in an exchange. -/
def startToks (y : Fin 5 × Fin 4) : sProp 𝕄 :=
  iprop(dutyTok ER (chCell c (0, y)) 0 0 ∗ dutyTok ER (chCell (pt (bitOf y.1 y.2) c) (1, y)) 0 0
    ∗ dutyTok ER (chCell c (2, y)) 0 0 ∗ dutyTok ER (chCell (pt (bitOf y.1 y.2) c) (3, y)) 0 0)

/-- What it needs of an exchange besides its accumulators: those, and the partner's slots. -/
def startKit (y : Fin 5 × Fin 4) : sProp 𝕄 := iprop(startToks c y ∗ slot (F := F) (pt (bitOf y.1 y.2) c) y)

/-- What it has once the exchange is under way: the credit of its own two send semaphores. -/
def inFlight (y : Fin 5 × Fin 4) : sProp 𝕄 :=
  iprop(cred (tallyAt (chCell c (0, y)) () NO) ∗ cred (tallyAt (chCell c (2, y)) () NM))

theorem startX_spec (l : List (Fin 5 × Fin 4)) (k : PUnit → T F α) (Q : α → sProp 𝕄) :
    iprop(records m K ∗ accs c j (accN m j s.val c) ∗ startKit c (s, j) ∗ owesX c (owedL c ((s, j) :: l)))
      ⊢ iprop(((inFlight c (s, j) ∗ owesX c (owedL c l)) -∗ wpc c (k ⟨⟩) Q)
          -∗ wpc c (startX (pt (bitOf s j) c) s j >>= k) Q) := by
  unfold accs startKit startToks slot inFlight startX owesX
  simp only [Prog.lift, Prog.bind_op, Prog.bind_ret, Prog.pure_eq_ret]
  iintro ⟨#Hr, ⟨Ho, Hm⟩, ⟨⟨Ht0, Ht1, Ht2, Ht3⟩, ⟨Hdo, Hdm⟩⟩, ⟨%W, HO⟩⟩ Hk
  ihave ⟨#Hi0, #Hr0⟩ := (records_ch m K c (0, s, j)) $$ Hr
  ihave ⟨#Hi1, #Hr1⟩ := (records_ch m K (pt (bitOf s j) c) (1, s, j)) $$ Hr
  ihave ⟨#Hi2, #Hr2⟩ := (records_ch m K c (2, s, j)) $$ Hr
  ihave ⟨#Hi3, #Hr3⟩ := (records_ch m K (pt (bitOf s j) c) (3, s, j)) $$ Hr
  have hO : owedL c ((s, j) :: l) = owedL c l + tallyAt (chCell (pt (bitOf s j) c) (3, s, j)) () NM + tallyAt (chCell (pt (bitOf s j) c) (1, s, j)) () NO := rfl
  rw [hO]
  iapply (send_owned m (oAcc j) (oRx s j) c (pt (bitOf s j) c) (semAt cc0_scratch4 s j) (semAt cc0_scratch5 s j) NO (accN m j s.val c).o
    (creditOr s j) (duty_ch m c (0, s, j)) (duty_ch m (pt (bitOf s j) c) (1, s, j)) (amount_ch m c (0, s, j) 0) (amount_ch m (pt (bitOf s j) c) (1, s, j) 0)
    (Entails.of_eq (payload_ch m c (0, s, j) 0).symm)
    (Entails.of_eq (by
      refine Eq.trans ?_ (payload_ch m (pt (bitOf s j) c) (1, s, j) 0).symm
      show _ = gotO m (pt (bitOf s j) c) s j
      unfold gotO; rw [pt_pt])) (K (c, some (0, s, j))) (K (pt (bitOf s j) c, some (1, s, j)))
      (owedL c l + tallyAt (chCell (pt (bitOf s j) c) (3, s, j)) () NM) W) $$ [Ho Hdo HO Ht0 Ht1]
  · isplitr; · iexact Hi0
    isplitr; · iexact Hi1
    isplitl [Ho]; · iexact Ho
    isplitl [Hdo]; · iexact Hdo
    isplitl [HO]; · iexact HO
    isplitl [Ht0]; · iexact Ht0
    isplitr; · iexact Hr0
    isplitl [Ht1]; · iexact Ht1
    iexact Hr1
  iintro ⟨Hc0, HO⟩
  iapply (send_owned m (mlAcc j) (mlRx s j) c (pt (bitOf s j) c) (semAt cc0_scratch6 s j) (semAt cc0_scratch7 s j) NM (accN m j s.val c).ml
    (creditMr s j) (duty_ch m c (2, s, j)) (duty_ch m (pt (bitOf s j) c) (3, s, j)) (amount_ch m c (2, s, j) 0) (amount_ch m (pt (bitOf s j) c) (3, s, j) 0)
    (Entails.of_eq (payload_ch m c (2, s, j) 0).symm)
    (Entails.of_eq (by
      refine Eq.trans ?_ (payload_ch m (pt (bitOf s j) c) (3, s, j) 0).symm
      show _ = gotM m (pt (bitOf s j) c) s j
      unfold gotM; rw [pt_pt])) (K (c, some (2, s, j))) (K (pt (bitOf s j) c, some (3, s, j)))
      (owedL c l) W) $$ [Hm Hdm HO Ht2 Ht3]
  · isplitr; · iexact Hi2
    isplitr; · iexact Hi3
    isplitl [Hm]; · iexact Hm
    isplitl [Hdm]; · iexact Hdm
    isplitl [HO]; · iexact HO
    isplitl [Ht2]; · iexact Ht2
    isplitr; · iexact Hr2
    isplitl [Ht3]; · iexact Ht3
    iexact Hr3
  iintro ⟨Hc2, HO⟩
  iapply Hk
  isplitl [Hc0 Hc2]
  · isplitl [Hc0]; · iexact Hc0
    iexact Hc2
  iexists W; iexact HO

/-! ## An exchange awaited and combined -/

/-- A wait for a transfer, its credit in hand: what its units hand over, and the semaphore, done with, back at zero. -/
theorem wait_owned (x : Ch) {sh : Shape} {e : EltTy} (src dst : Memref sig .tc .vmem sh e) (q : DmaSem sig) (N : ℕ) (hq : chSem x = .dma q)
    (hN : dst.view.dmaCredit = N) (hx : amt x = N) (P : sProp 𝕄) (hP : chPay m c x = P) {hsrc : src.view.WordExact} {hdst : dst.view.WordExact}
    (l : List (Fin 5 × Fin 4)) (hl : ∀ y ∈ l, x.2.1.val < y.1.val) (k : PUnit → T F α) (Q : α → sProp 𝕄) :
    iprop(records m K ∗ levAts L lv ∗ cred (tallyAt (chCell c x) () N) ∗ owesX c (owedL c l) ∗ atPos ER (chCell c x) 0 ∅ 0)
      ⊢ iprop(((owesX c (owedL c l) ∗ semVal (chCell c x) 0 ∗ P) -∗ wpc c (k ⟨⟩) Q) -∗ wpc c (.op (.waitDma2 q src dst hsrc hdst) k) Q) := by
  have hk : 0 + N = (rd m).expect (chCell c x) 0 := by rw [expect_ch, hx, Nat.zero_add]
  have hrest := rest_ch m c x
  have hlater := duties_later m (chCell c x)
  have hwait := mayWait_ch (F := F) c x l hl
  have hrec := records_ch m K c x
  unfold owesX
  unfold chCell at *
  rw [hq] at *
  subst hN hP
  iintro ⟨#Hr, #Hlev, Hc, ⟨%W, HO⟩, Hat⟩ Hk
  ihave ⟨#Hi, -⟩ := hrec $$ Hr
  iapply (Rounds.wp_wait_rest_token 𝒱₀ ER (rd m) (c : Thread nD τ) none (κ := K (c, some x))
      (wpE_waitDma2_eq 𝒱₀ (c : Thread nD τ) none Set.univ) (Set.mem_univ _) () (O := owedL c l) (W := W) (R := 0) (m := 0) (T := ∅) hk) $$ [Hc HO Hat]
  · isplitr; · iexact Hi
    isplitl [Hc]; · iexact Hc
    isplitl [HO]; · iexact HO
    isplitr; · iapply hwait; iexact Hlev
    iexact Hat
  iintro ⟨HO, Hat, -, Hpay⟩
  imod (Rounds.cell_close ER (rd m) (Set.mem_univ (K (c, some x))) (fun h => h) (R := 0 + 1) hlater) $$ [Hat] with Hz
  · isplitr; · iexact Hi
    iexact Hat
  iapply Hk
  isplitl [HO]; · iexists _; iexact HO
  isplitl [Hz]; · iexact Hz
  iapply (Entails.of_eq hrest); iexact Hpay

/-- What a device needs to await an exchange besides its own sends' credit: its positions on the four semaphores and the
    credit of the partner's transfers. -/
def waitKit (y : Fin 5 × Fin 4) : sProp 𝕄 :=
  iprop(atPos ER (chCell c (0, y)) 0 ∅ 0 ∗ atPos ER (chCell c (1, y)) 0 ∅ 0 ∗ atPos ER (chCell c (2, y)) 0 ∅ 0 ∗ atPos ER (chCell c (3, y)) 0 ∅ 0
    ∗ cred (tallyAt (chCell c (1, y)) () NO) ∗ cred (tallyAt (chCell c (3, y)) () NM))

/-- What it has afterwards: the four semaphores at zero, and its slots. -/
def doneX (y : Fin 5 × Fin 4) : sProp 𝕄 :=
  iprop((semVal (chCell c (0, y)) 0 ∗ semVal (chCell c (1, y)) 0 ∗ semVal (chCell c (2, y)) 0 ∗ semVal (chCell c (3, y)) 0) ∗ slot (F := F) c y)

theorem owns_slot (A : Acc F) : iprop(owns (c : Thread nD τ) (oRx s j) fullShare A.o ∗ owns (c : Thread nD τ) (mlRx s j) fullShare A.ml)
    ⊢ (slot c (s, j) : sProp 𝕄) := by
  unfold owns slot
  iintro ⟨⟨%f, -, H⟩, ⟨%g, -, H'⟩⟩
  isplitl [H]
  · iexists f; iexact H
  · iexists g; iexact H'

theorem waitX_spec (l : List (Fin 5 × Fin 4)) (hl : ∀ y ∈ l, s.val < y.1.val) (k : PUnit → T F α) (Q : α → sProp 𝕄) :
    iprop(records m K ∗ levAts L lv ∗ inFlight c (s, j) ∗ waitKit c (s, j) ∗ owesX c (owedL c l))
      ⊢ iprop(((accs c j (accN m j s.val c) ∗ (owns (c : Thread nD τ) (oRx s j) fullShare (accN m j s.val (pt (bitOf s j) c)).o
            ∗ owns (c : Thread nD τ) (mlRx s j) fullShare (accN m j s.val (pt (bitOf s j) c)).ml)
          ∗ (semVal (chCell c (0, s, j)) 0 ∗ semVal (chCell c (1, s, j)) 0 ∗ semVal (chCell c (2, s, j)) 0 ∗ semVal (chCell c (3, s, j)) 0)
          ∗ owesX c (owedL c l)) -∗ wpc c (k ⟨⟩) Q)
        -∗ wpc c (waitX s j >>= k) Q) := by
  unfold inFlight waitKit waitX
  simp only [Prog.lift, Prog.bind_op, Prog.bind_ret, Prog.pure_eq_ret]
  iintro ⟨#Hr, #Hlev, ⟨Hc0, Hc2⟩, ⟨Ha0, Ha1, Ha2, Ha3, Hc1, Hc3⟩, HO⟩ Hk
  iapply (wait_owned m K c (0, s, j) (oRx s j) (oAcc j) (semAt cc0_scratch4 s j) NO rfl (creditO j) rfl (ownO m c j s.val) rfl l hl) $$ [Hc0 HO Ha0]
  · isplitr; · iexact Hr
    isplitr; · iexact Hlev
    isplitl [Hc0]; · iexact Hc0
    isplitl [HO] <;> iassumption
  iintro ⟨HO, Hz0, Ho⟩
  iapply (wait_owned m K c (1, s, j) (oAcc j) (oRx s j) (semAt cc0_scratch5 s j) NO rfl (creditOr s j) rfl (gotO m c s j) rfl l hl) $$ [Hc1 HO Ha1]
  · isplitr; · iexact Hr
    isplitr; · iexact Hlev
    isplitl [Hc1]; · iexact Hc1
    isplitl [HO] <;> iassumption
  iintro ⟨HO, Hz1, Hor⟩
  iapply (wait_owned m K c (2, s, j) (mlRx s j) (mlAcc j) (semAt cc0_scratch6 s j) NM rfl (creditM j) rfl (ownM m c j s.val) rfl l hl) $$ [Hc2 HO Ha2]
  · isplitr; · iexact Hr
    isplitr; · iexact Hlev
    isplitl [Hc2]; · iexact Hc2
    isplitl [HO] <;> iassumption
  iintro ⟨HO, Hz2, Hm⟩
  iapply (wait_owned m K c (3, s, j) (mlAcc j) (mlRx s j) (semAt cc0_scratch7 s j) NM rfl (creditMr s j) rfl (gotM m c s j) rfl l hl) $$ [Hc3 HO Ha3]
  · isplitr; · iexact Hr
    isplitr; · iexact Hlev
    isplitl [Hc3]; · iexact Hc3
    isplitl [HO] <;> iassumption
  iintro ⟨HO, Hz3, Hmr⟩
  iapply Hk
  unfold accs ownO ownM gotO gotM
  isplitl [Ho Hm]
  · isplitl [Ho] <;> iassumption
  isplitl [Hor Hmr]
  · isplitl [Hor] <;> iassumption
  isplitl [Hz0 Hz1 Hz2 Hz3]
  · isplitl [Hz0]; · iexact Hz0
    isplitl [Hz1]; · iexact Hz1
    isplitl [Hz2] <;> iassumption
  iexact HO

theorem turn_spec (l : List (Fin 5 × Fin 4)) (hl : ∀ y ∈ l, s.val < y.1.val) (k : PUnit → T F α) (Q : α → sProp 𝕄) :
    iprop(records m K ∗ levAts L lv ∗ inFlight c (s, j) ∗ waitKit c (s, j) ∗ owesX c (owedL c l))
      ⊢ iprop(((accs c j (accN m j (s.val + 1) c) ∗ doneX c (s, j) ∗ owesX c (owedL c l)) -∗ wpc c (k ⟨⟩) Q)
        -∗ wpc c (turn s j >>= k) Q) := by
  unfold turn
  simp only [bind_assoc]
  iintro H Hk
  iapply (waitX_spec m K c s j l hl) $$ H
  iintro ⟨Ha, Hrx, Hz, HO⟩
  iapply (combine_spec c s j (accN m j s.val c) (accN m j s.val (pt (bitOf s j) c))) $$ [Ha Hrx]
  · isplitl [Ha]; · iexact Ha
    iexact Hrx
  iintro ⟨Ha, Hrx⟩
  iapply Hk
  isplitl [Ha]; · iexact Ha
  unfold doneX
  isplitl [Hz Hrx]
  · isplitl [Hz]; · iexact Hz
    iapply (owns_slot c s j); iexact Hrx
  iexact HO

theorem turnNext_spec (s' : Fin 5) (hs : s'.val = s.val + 1) (l : List (Fin 5 × Fin 4)) (hl : ∀ y ∈ (s', j) :: l, s.val < y.1.val)
    (k : PUnit → T F α) (Q : α → sProp 𝕄) :
    iprop(records m K ∗ levAts L lv ∗ inFlight c (s, j) ∗ waitKit c (s, j) ∗ startKit c (s', j) ∗ owesX c (owedL c ((s', j) :: l)))
      ⊢ iprop(((inFlight c (s', j) ∗ doneX c (s, j) ∗ owesX c (owedL c l)) -∗ wpc c (k ⟨⟩) Q)
        -∗ wpc c (turnNext c s s' j >>= k) Q) := by
  unfold turnNext
  simp only [bind_assoc]
  iintro ⟨#Hr, #Hlev, Hf, Hw, Hs, HO⟩ Hk
  iapply (turn_spec m K c s j ((s', j) :: l) hl) $$ [Hf Hw HO]
  · isplitr; · iexact Hr
    isplitr; · iexact Hlev
    isplitl [Hf]; · iexact Hf
    isplitl [Hw] <;> iassumption
  iintro ⟨Ha, Hd, HO⟩
  rw [← hs]
  iapply (startX_spec m K c s' j l) $$ [Ha Hs HO]
  · isplitr; · iexact Hr
    isplitl [Ha]; · iexact Ha
    isplitl [Hs] <;> iassumption
  iintro ⟨Hf, HO⟩
  iapply Hk
  isplitl [Hf]; · iexact Hf
  isplitl [Hd] <;> iassumption

end Start

end Cert.Butterfly

end
-- ==== Proof.Whole.lean ====
/-
The body's segments in program order: the handshake, the opening, the rounds, the closing, and all of them.
-/
module

public import proofs.«01_k».proof.Proof.Exchange

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Ch → ℕ)

/-- The four exchanges of step `s` before those of `l`. -/
abbrev rowL (s : Fin 5) (l : List (Fin 5 × Fin 4)) : List (Fin 5 × Fin 4) := (s, 0) :: (s, 1) :: (s, 2) :: (s, 3) :: l

theorem order_eq : order = rowL 0 (rowL 1 (rowL 2 (rowL 3 (rowL 4 [])))) := rfl

/-- A resource of each of the four exchanges of step `s`. -/
def row (P : Fin 5 × Fin 4 → sProp 𝕄) (s : Fin 5) : sProp 𝕄 := iprop(P (s, 0) ∗ P (s, 1) ∗ P (s, 2) ∗ P (s, 3))

theorem after_row {s : Fin 5} {s' : Fin 5} (hs : s'.val = s.val + 1) {l : List (Fin 5 × Fin 4)} (hl : ∀ y ∈ l, s.val < y.1.val)
    (js : List (Fin 4)) : ∀ y ∈ js.map (fun j => (s', j)) ++ l, s.val < y.1.val := by
  intro y hy
  rcases List.mem_append.mp hy with h | h
  · obtain ⟨j, -, rfl⟩ := List.mem_map.mp h
    show s.val < s'.val
    omega
  · exact hl y h

section
variable (c : Dev nD) {α : Type}

/-- One signal to the partner across bit `b`, with the slots that partner will fill. -/
theorem signal_spec (b : Fin 5) (l : List (Fin 5)) (k : PUnit → T F α) (Q : α → sProp 𝕄) :
    iprop(records m K ∗ owesX c (barOwed c (b :: l)) ∗ dutyTok ER (barCell (pt b c)) 0 b ∗ (rd m).payload (barCell (pt b c)) 0 b)
      ⊢ iprop((owesX c (barOwed c l) -∗ wpc c (k ⟨⟩) Q)
        -∗ wpc c (semSignalWord (pt b c) barS 1#32 >>= k) Q) := by
  simp only [semSignalWord, Prog.lift, Prog.bind_op, Prog.bind_ret, Prog.pure_eq_ret]
  unfold owesX
  iintro ⟨#Hr, ⟨%W, HO⟩, Ht, Hp⟩ Hk
  ihave ⟨#Hi, #Hr0⟩ := (records_bar m K (pt b c)) $$ Hr
  iapply (Rounds.wp_signal 𝒱₀ ER (rd m) (c : Thread nD τ) none (dst := (pt b c : Thread nD τ)) (κ := K (pt b c, none))
      (d := b) (by rw [duties_bar]; exact Finset.mem_univ _) ((amount_bar m (pt b c) b).trans (by decide)) () (barOwed c l) rfl)
    $$ [HO Ht Hp]
  · isplitr; · iexact Hi
    isplitl [HO]; · iexact HO
    isplitl [Ht]; · iexact Ht
    isplitl [Hp]; · iexact Hp
    iexact Hr0
  iintro HO
  iapply Hk
  iexists W; iexact HO

/-- What a device starts its handshake with. -/
def barKit : sProp 𝕄 :=
  iprop(atPos ER (barCell c) 0 ∅ 0 ∗ cred (tallyAt (barCell c) () 5) ∗ (bigSep Finset.univ fun b : Fin 5 => dutyTok ER (barCell (pt b c)) 0 b)
    ∗ bigSep Finset.univ fun y : Fin 5 × Fin 4 => slot (F := F) c y)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem handshake_spec (k : PUnit → T F α) (Q : α → sProp 𝕄) :
    iprop(records m K ∗ levAts L lv ∗ barKit c ∗ owesX c (O₀ c))
      ⊢ iprop((((bigSep Finset.univ fun y : Fin 5 × Fin 4 => slot (F := F) (pt (bitOf y.1 y.2) c) y) ∗ owesX c (owedL c order) ∗ semVal (barCell c) 0)
          -∗ wpc c (k ⟨⟩) Q)
        -∗ wpc c (handshake c >>= k) Q) := by
  unfold barKit handshake
  rw [slots_deal m c, bigSep_fin5, bigSep_fin5]
  simp only [bind_assoc]
  iintro ⟨#Hr, #Hlev, ⟨Hat, Hc, ⟨Ht0, Ht1, Ht2, Ht3, Ht4⟩, ⟨Hp0, Hp1, Hp2, Hp3, Hp4⟩⟩, HO⟩ Hk
  iapply (signal_spec m K c 0 [1, 2, 3, 4]) $$ [HO Ht0 Hp0]
  · isplitr; · iexact Hr
    isplitl [HO]; · iexact HO
    isplitl [Ht0] <;> iassumption
  iintro HO
  iapply (signal_spec m K c 1 [2, 3, 4]) $$ [HO Ht1 Hp1]
  · isplitr; · iexact Hr
    isplitl [HO]; · iexact HO
    isplitl [Ht1] <;> iassumption
  iintro HO
  iapply (signal_spec m K c 2 [3, 4]) $$ [HO Ht2 Hp2]
  · isplitr; · iexact Hr
    isplitl [HO]; · iexact HO
    isplitl [Ht2] <;> iassumption
  iintro HO
  iapply (signal_spec m K c 3 [4]) $$ [HO Ht3 Hp3]
  · isplitr; · iexact Hr
    isplitl [HO]; · iexact HO
    isplitl [Ht3] <;> iassumption
  iintro HO
  iapply (signal_spec m K c 4 []) $$ [HO Ht4 Hp4]
  · isplitr; · iexact Hr
    isplitl [HO]; · iexact HO
    isplitl [Ht4] <;> iassumption
  iintro HO
  simp only [semWaitWord, Prog.lift, Prog.bind_op, Prog.bind_ret, Prog.pure_eq_ret]
  ihave ⟨#Hi, -⟩ := (records_bar m K c) $$ Hr
  unfold owesX
  icases HO with ⟨%W, HO⟩
  iapply (Rounds.wp_wait_rest_token 𝒱₀ ER (rd m) (c : Thread nD τ) none (κ := K (c, none))
      (wpE_semWait_eq 𝒱₀ (c : Thread nD τ) none Set.univ) (Set.mem_univ _) () (O := owedL c order) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  imod (Rounds.cell_close ER (rd m) (Set.mem_univ (K (c, none))) (fun h => h) (R := 0 + 1) (duties_later m (barCell c))) $$ [Hat] with Hz
  · isplitr; · iexact Hi
    iexact Hat
  iapply Hk
  isplitl [Hpay]; · iapply (Entails.of_eq (rest_bar m c)); iexact Hpay
  isplitl [HO]; · iexists _; iexact HO
  iexact Hz

theorem round_spec (s s' : Fin 5) (hs : s'.val = s.val + 1) (l : List (Fin 5 × Fin 4)) (hl : ∀ y ∈ l, s.val < y.1.val) (k : PUnit → T F α) (Q : α → sProp 𝕄) :
    iprop(records m K ∗ levAts L lv ∗ row (inFlight c) s ∗ row (waitKit c) s ∗ row (startKit c) s' ∗ owesX c (owedL c (rowL s' l)))
      ⊢ iprop(((row (inFlight c) s' ∗ row (doneX c) s ∗ owesX c (owedL c l)) -∗ wpc c (k ⟨⟩) Q)
        -∗ wpc c (round c s s' >>= k) Q) := by
  unfold row round
  simp only [bind_assoc]
  iintro ⟨#Hr, #Hlev, ⟨Hf0, Hf1, Hf2, Hf3⟩, ⟨Hw0, Hw1, Hw2, Hw3⟩, ⟨Hs0, Hs1, Hs2, Hs3⟩, HO⟩ Hk
  iapply (turnNext_spec m K c s 0 s' hs ((s', 1) :: (s', 2) :: (s', 3) :: l) (after_row hs hl [0, 1, 2, 3])) $$ [Hf0 Hw0 Hs0 HO]
  · isplitr; · iexact Hr
    isplitr; · iexact Hlev
    isplitl [Hf0]; · iexact Hf0
    isplitl [Hw0]; · iexact Hw0
    isplitl [Hs0] <;> iassumption
  iintro ⟨Hf0, Hd0, HO⟩
  iapply (turnNext_spec m K c s 1 s' hs ((s', 2) :: (s', 3) :: l) (after_row hs hl [1, 2, 3])) $$ [Hf1 Hw1 Hs1 HO]
  · isplitr; · iexact Hr
    isplitr; · iexact Hlev
    isplitl [Hf1]; · iexact Hf1
    isplitl [Hw1]; · iexact Hw1
    isplitl [Hs1] <;> iassumption
  iintro ⟨Hf1, Hd1, HO⟩
  iapply (turnNext_spec m K c s 2 s' hs ((s', 3) :: l) (after_row hs hl [2, 3])) $$ [Hf2 Hw2 Hs2 HO]
  · isplitr; · iexact Hr
    isplitr; · iexact Hlev
    isplitl [Hf2]; · iexact Hf2
    isplitl [Hw2]; · iexact Hw2
    isplitl [Hs2] <;> iassumption
  iintro ⟨Hf2, Hd2, HO⟩
  iapply (turnNext_spec m K c s 3 s' hs l (after_row hs hl [3])) $$ [Hf3 Hw3 Hs3 HO]
  · isplitr; · iexact Hr
    isplitr; · iexact Hlev
    isplitl [Hf3]; · iexact Hf3
    isplitl [Hw3]; · iexact Hw3
    isplitl [Hs3] <;> iassumption
  iintro ⟨Hf3, Hd3, HO⟩
  iapply Hk
  isplitl [Hf0 Hf1 Hf2 Hf3]
  · isplitl [Hf0]; · iexact Hf0
    isplitl [Hf1]; · iexact Hf1
    isplitl [Hf2] <;> iassumption
  isplitl [Hd0 Hd1 Hd2 Hd3]
  · isplitl [Hd0]; · iexact Hd0
    isplitl [Hd1]; · iexact Hd1
    isplitl [Hd2] <;> iassumption
  iexact HO

/-- The accumulators of the four strips, each at some contents. -/
def accsAny : sProp 𝕄 := bigSep Finset.univ fun j : Fin 4 => iprop(∃ A : Acc F, accs c j A)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem opening_spec (l : List (Fin 5 × Fin 4)) (k : PUnit → T F α) (Q : α → sProp 𝕄) :
    iprop(records m K ∗ accsAny c ∗ row (startKit c) 0 ∗ owesX c (owedL c (rowL 0 l)))
      ⊢ iprop(((row (inFlight c) 0 ∗ owesX c (owedL c l)) -∗ wpc c (k ⟨⟩) Q)
        -∗ wpc c (opening c (wqVal (wqStg m c)) (xVal (xStg m c)) (kvVal 0 (kStg m c)) (kvVal 0 (vStg m c)) (kvVal 1 (kStg m c)) (kvVal 1 (vStg m c)) >>= k) Q) := by
  unfold row opening accsAny
  rw [bigSep_fin4]
  simp only [bind_assoc]
  iintro ⟨#Hr, ⟨⟨%A0, Ha0⟩, ⟨%A1, Ha1⟩, ⟨%A2, Ha2⟩, ⟨%A3, Ha3⟩⟩, ⟨Hs0, Hs1, Hs2, Hs3⟩, HO⟩ Hk
  iapply (flash_spec c 0 _ _ _ A0) $$ Ha0; iintro Ha0
  iapply (startX_spec m K c 0 0 ((0, 1) :: (0, 2) :: (0, 3) :: l)) $$ [Ha0 Hs0 HO]
  · isplitr; · iexact Hr
    isplitl [Ha0]; · iexact Ha0
    isplitl [Hs0] <;> iassumption
  iintro ⟨Hf0, HO⟩
  iapply (flash_spec c 1 _ _ _ A1) $$ Ha1; iintro Ha1
  iapply (startX_spec m K c 0 1 ((0, 2) :: (0, 3) :: l)) $$ [Ha1 Hs1 HO]
  · isplitr; · iexact Hr
    isplitl [Ha1]; · iexact Ha1
    isplitl [Hs1] <;> iassumption
  iintro ⟨Hf1, HO⟩
  iapply (flash_spec c 2 _ _ _ A2) $$ Ha2; iintro Ha2
  iapply (startX_spec m K c 0 2 ((0, 3) :: l)) $$ [Ha2 Hs2 HO]
  · isplitr; · iexact Hr
    isplitl [Ha2]; · iexact Ha2
    isplitl [Hs2] <;> iassumption
  iintro ⟨Hf2, HO⟩
  iapply (flash_spec c 3 _ _ _ A3) $$ Ha3; iintro Ha3
  iapply (startX_spec m K c 0 3 l) $$ [Ha3 Hs3 HO]
  · isplitr; · iexact Hr
    isplitl [Ha3]; · iexact Ha3
    isplitl [Hs3] <;> iassumption
  iintro ⟨Hf3, HO⟩
  iapply Hk
  isplitl [Hf0 Hf1 Hf2 Hf3]
  · isplitl [Hf0]; · iexact Hf0
    isplitl [Hf1]; · iexact Hf1
    isplitl [Hf2] <;> iassumption
  iexact HO

theorem closing_out (X : FVec F S2x256x768 .f32) (p0 p1 p2 p3 : FVec F S256x768 .f32) :
    setB (F := F) (setB (F := F) (setB (F := F) (setB (F := F) X 0 p0) 0 (addf (rowB (F := F) (setB (F := F) X 0 p0) 0) p1)) 1 p2) 1
      (addf (rowB (F := F) (setB (F := F) (setB (F := F) (setB (F := F) X 0 p0) 0 (addf (rowB (F := F) (setB (F := F) X 0 p0) 0) p1)) 1 p2) 1) p3)
    = fun p => if (p 0).val = 0 then addf p0 p1 (ValueIdx.ix2 (p 1 : Fin 256) (p 2 : Fin 768)) else addf p2 p3 (ValueIdx.ix2 (p 1 : Fin 256) (p 2 : Fin 768)) := by
  rw [rowB_setB, rowB_setB, setB_all]

theorem closing_spec (wo : FVec F S512x768 .bf16) (X : FVec F S2x256x768 .f32) (k : PUnit → T F α) (Q : α → sProp 𝕄) :
    iprop(records m K ∗ levAts L lv ∗ row (inFlight c) 4 ∗ row (waitKit c) 4 ∗ stg c cc0_stg5_0 X ∗ owesX c (owedL c []))
      ⊢ iprop(((accsAny c ∗ row (doneX c) 4 ∗ stg c cc0_stg5_0 (outOf wo fun j => accN m j 5 c) ∗ owesX c (owedL c [])) -∗ wpc c (k ⟨⟩) Q)
        -∗ wpc c (closing wo >>= k) Q) := by
  unfold row closing accsAny
  rw [bigSep_fin4]
  simp only [bind_assoc]
  iintro ⟨#Hr, #Hlev, ⟨Hf0, Hf1, Hf2, Hf3⟩, ⟨Hw0, Hw1, Hw2, Hw3⟩, Hx, HO⟩ Hk
  iapply (turn_spec m K c 4 0 [] (fun _ h => nomatch h)) $$ [Hf0 Hw0 HO]
  · isplitr; · iexact Hr
    isplitr; · iexact Hlev
    isplitl [Hf0]; · iexact Hf0
    isplitl [Hw0] <;> iassumption
  iintro ⟨Ha0, Hd0, HO⟩
  iapply (projectFirst_spec c 0 0 wo) $$ [Ha0 Hx]
  · isplitl [Ha0] <;> iassumption
  iintro ⟨Ha0, Hx⟩
  iapply (turn_spec m K c 4 1 [] (fun _ h => nomatch h)) $$ [Hf1 Hw1 HO]
  · isplitr; · iexact Hr
    isplitr; · iexact Hlev
    isplitl [Hf1]; · iexact Hf1
    isplitl [Hw1] <;> iassumption
  iintro ⟨Ha1, Hd1, HO⟩
  iapply (projectSecond_spec c 0 1 wo) $$ [Ha1 Hx]
  · isplitl [Ha1] <;> iassumption
  iintro ⟨Ha1, Hx⟩
  iapply (turn_spec m K c 4 2 [] (fun _ h => nomatch h)) $$ [Hf2 Hw2 HO]
  · isplitr; · iexact Hr
    isplitr; · iexact Hlev
    isplitl [Hf2]; · iexact Hf2
    isplitl [Hw2] <;> iassumption
  iintro ⟨Ha2, Hd2, HO⟩
  iapply (projectFirst_spec c 1 2 wo) $$ [Ha2 Hx]
  · isplitl [Ha2] <;> iassumption
  iintro ⟨Ha2, Hx⟩
  iapply (turn_spec m K c 4 3 [] (fun _ h => nomatch h)) $$ [Hf3 Hw3 HO]
  · isplitr; · iexact Hr
    isplitr; · iexact Hlev
    isplitl [Hf3]; · iexact Hf3
    isplitl [Hw3] <;> iassumption
  iintro ⟨Ha3, Hd3, HO⟩
  iapply (projectSecond_spec c 1 3 wo) $$ [Ha3 Hx]
  · isplitl [Ha3] <;> iassumption
  iintro ⟨Ha3, Hx⟩
  iapply Hk
  rw [closing_out]
  isplitl [Ha0 Ha1 Ha2 Ha3]
  · isplitl [Ha0]; · iexists _; iexact Ha0
    isplitl [Ha1]; · iexists _; iexact Ha1
    isplitl [Ha2]; · iexists _; iexact Ha2
    iexists _; iexact Ha3
  isplitl [Hd0 Hd1 Hd2 Hd3]
  · isplitl [Hd0]; · iexact Hd0
    isplitl [Hd1]; · iexact Hd1
    isplitl [Hd2] <;> iassumption
  isplitl [Hx]; · iexact Hx
  iexact HO

/-- A resource of every exchange, step by step. -/
theorem rows_eq (P : Fin 5 × Fin 4 → sProp 𝕄) : bigSep Finset.univ P = iprop(row P 0 ∗ row P 1 ∗ row P 2 ∗ row P 3 ∗ row P 4) := by
  unfold row
  rw [bigSep_univ_prod, bigSep_fin5]
  simp only [bigSep_fin4]

/-- The body behind the device's own number. -/
def fromDevice (c : Dev nD) : T F PUnit :=
  handshake c >>= fun _ => loadX >>= fun x => loadWq >>= fun wq => loadKV kM 0 >>= fun k0 => loadKV vM 0 >>= fun v0 =>
    loadKV kM 1 >>= fun k1 => loadKV vM 1 >>= fun v1 => loadWo >>= fun wo => opening c wq x k0 v0 k1 v1 >>= fun _ =>
    round c 0 1 >>= fun _ => round c 1 2 >>= fun _ => round c 2 3 >>= fun _ => round c 3 4 >>= fun _ => closing wo >>= fun _ => .ret ⟨⟩

theorem whole_eq : (whole : T F PUnit) = .op .deviceId fromDevice := by
  have h : ∀ c, (fromDevice c : T F PUnit) = handshake c >>= fun _ => loadX >>= fun x => loadWq >>= fun wq => loadKV kM 0 >>= fun k0 => loadKV vM 0 >>= fun v0 =>
      loadKV kM 1 >>= fun k1 => loadKV vM 1 >>= fun v1 => loadWo >>= fun wo => opening c wq x k0 v0 k1 v1 >>= fun _ =>
      round c 0 1 >>= fun _ => round c 1 2 >>= fun _ => round c 2 3 >>= fun _ => round c 3 4 >>= fun _ => closing wo := fun c => by
    have hp : ∀ wo : FVec F S512x768 .bf16, (closing wo >>= fun _ => (.ret ⟨⟩ : T F PUnit)) = closing wo := fun wo => bind_pure _
    unfold fromDevice; simp only [hp]
  rw [show (fromDevice : Dev nD → T F PUnit) = _ from funext h]
  rfl

/-- What a device's body starts from, besides what it knows of the cells. -/
def kit : sProp 𝕄 :=
  iprop(barKit c ∗ (bigSep Finset.univ fun y : Fin 5 × Fin 4 => startToks c y) ∗ (bigSep Finset.univ fun y : Fin 5 × Fin 4 => waitKit c y) ∗ accsAny c)

/-- What it leaves. -/
def left : sProp 𝕄 := iprop((bigSep Finset.univ fun y : Fin 5 × Fin 4 => doneX c y) ∗ accsAny c ∗ semVal (barCell c) 0)

/-- The five staged operands and the result's buffer. -/
def staged (X : FVec F S2x256x768 .f32) : sProp 𝕄 :=
  iprop(stg c cc0_stg0_0 (xStg m c) ∗ stg c cc0_stg1_0 (wqStg m c) ∗ stg c cc0_stg2_0 (woStg m c) ∗ stg c cc0_stg3_0 (kStg m c)
    ∗ stg c cc0_stg4_0 (vStg m c) ∗ stg c cc0_stg5_0 X)

theorem whole_spec (X : FVec F S2x256x768 .f32) (Q : PUnit → sProp 𝕄) :
    iprop(records m K ∗ levAts L lv ∗ kit c ∗ staged m c X ∗ owesX c (O₀ c))
      ⊢ iprop(((left c ∗ staged m c (outAt m c) ∗ owesX c 0) -∗ Q ⟨⟩) -∗ wpc c whole Q) := by
  unfold kit staged left
  rw [whole_eq]
  unfold wpc
  rw [wp_deviceId]
  unfold fromDevice
  iintro ⟨#Hr, #Hlev, ⟨Hbar, Htoks, Hwaits, Haccs⟩, ⟨Hx, Hwq, Hwo, Hk, Hv, Hout⟩, HO⟩ HQ
  iapply (handshake_spec m K c) $$ [Hbar HO]
  · isplitr; · iexact Hr
    isplitr; · iexact Hlev
    isplitl [Hbar] <;> iassumption
  iintro ⟨Hslots, HO, Hzb⟩
  ihave Hs := (Entails.of_eq ((bigSep_sep' Finset.univ (fun y : Fin 5 × Fin 4 => startToks c y) (fun y : Fin 5 × Fin 4 => slot (F := F) (pt (bitOf y.1 y.2) c) y)).symm.trans
    (rows_eq (startKit c)))) $$ [Htoks Hslots]
  · isplitl [Htoks] <;> iassumption
  ihave Hw := (Entails.of_eq (rows_eq (waitKit (F := F) c))) $$ Hwaits
  icases Hs with ⟨Hs0, Hs1, Hs2, Hs3, Hs4⟩
  icases Hw with ⟨Hw0, Hw1, Hw2, Hw3, Hw4⟩
  iapply (loadX_spec c) $$ Hx; iintro Hx
  iapply (loadWq_spec c) $$ Hwq; iintro Hwq
  iapply (loadK_spec c) $$ Hk; iintro Hk
  iapply (loadV_spec c) $$ Hv; iintro Hv
  iapply (loadK_spec c) $$ Hk; iintro Hk
  iapply (loadV_spec c) $$ Hv; iintro Hv
  iapply (loadWo_spec c) $$ Hwo; iintro Hwo
  rw [order_eq]
  iapply (opening_spec m K c (rowL 1 (rowL 2 (rowL 3 (rowL 4 []))))) $$ [Haccs Hs0 HO]
  · isplitr; · iexact Hr
    isplitl [Haccs]; · iexact Haccs
    isplitl [Hs0] <;> iassumption
  iintro ⟨Hf, HO⟩
  iapply (round_spec m K c 0 1 rfl (rowL 2 (rowL 3 (rowL 4 []))) (by decide)) $$ [Hf Hw0 Hs1 HO]
  · isplitr; · iexact Hr
    isplitr; · iexact Hlev
    isplitl [Hf]; · iexact Hf
    isplitl [Hw0]; · iexact Hw0
    isplitl [Hs1] <;> iassumption
  iintro ⟨Hf, Hd0, HO⟩
  iapply (round_spec m K c 1 2 rfl (rowL 3 (rowL 4 [])) (by decide)) $$ [Hf Hw1 Hs2 HO]
  · isplitr; · iexact Hr
    isplitr; · iexact Hlev
    isplitl [Hf]; · iexact Hf
    isplitl [Hw1]; · iexact Hw1
    isplitl [Hs2] <;> iassumption
  iintro ⟨Hf, Hd1, HO⟩
  iapply (round_spec m K c 2 3 rfl (rowL 4 []) (by decide)) $$ [Hf Hw2 Hs3 HO]
  · isplitr; · iexact Hr
    isplitr; · iexact Hlev
    isplitl [Hf]; · iexact Hf
    isplitl [Hw2]; · iexact Hw2
    isplitl [Hs3] <;> iassumption
  iintro ⟨Hf, Hd2, HO⟩
  iapply (round_spec m K c 3 4 rfl [] (by decide)) $$ [Hf Hw3 Hs4 HO]
  · isplitr; · iexact Hr
    isplitr; · iexact Hlev
    isplitl [Hf]; · iexact Hf
    isplitl [Hw3]; · iexact Hw3
    isplitl [Hs4] <;> iassumption
  iintro ⟨Hf, Hd3, HO⟩
  iapply (closing_spec m K c (woVal (woStg m c)) X) $$ [Hf Hw4 Hout HO]
  · isplitr; · iexact Hr
    isplitr; · iexact Hlev
    isplitl [Hf]; · iexact Hf
    isplitl [Hw4]; · iexact Hw4
    isplitl [Hout] <;> iassumption
  iintro ⟨Haccs, Hd4, Hout, HO⟩
  unfold wpc
  rw [wp_ret]; imodintro
  iapply HQ
  rw [rows_eq]
  isplitl [Hd0 Hd1 Hd2 Hd3 Hd4 Haccs Hzb]
  · isplitl [Hd0 Hd1 Hd2 Hd3 Hd4]
    · isplitl [Hd0]; · iexact Hd0
      isplitl [Hd1]; · iexact Hd1
      isplitl [Hd2]; · iexact Hd2
      isplitl [Hd3] <;> iassumption
    isplitl [Haccs] <;> iassumption
  isplitl [Hx Hwq Hwo Hk Hv Hout]
  · isplitl [Hx]; · iexact Hx
    isplitl [Hwq]; · iexact Hwq
    isplitl [Hwo]; · iexact Hwo
    isplitl [Hk]; · iexact Hk
    isplitl [Hv]; · iexact Hv
    iexact Hout
  iexact HO

end

end Cert.Butterfly

end
-- ==== Proof.Held.lean ====
/-
The kernel's scratch buffers, each held whole, as the strips' accumulators and the exchanges' slots, and back.
-/
module

public import proofs.«01_k».proof.Proof.Local
public import Idealize.ShloMosaic.Lib.Ring

@[expose] public section

noncomputable section

namespace Cert.Butterfly

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem emb_Or (s : Fin 5) (j a : Fin 4) (b : Fin 64) (d : Fin 256) (z z' : Fin 1) : (rOr s j).emb (ix5 z z' a b d) = ix5 s j a b d := by
  funext k; refine Fin.ext ?_
  show (![s.val, j.val, 0, 0, 0] : Fin 5 → ℕ) k + 1 * (ix5 z z' a b d k).val = _
  fin_cases k <;> simp

theorem mem_oRx (s : Fin 5) (j a : Fin 4) (b : Fin 64) (d : Fin 256) : orxM.view.emb (ix5 s j a b d) ∈ (oRx s j).view.set :=
  Finset.mem_map.mpr ⟨ix3 a b d, Finset.mem_univ _, by
    show orxM.view.emb ((rOr s j).emb (Shape.reshapeEquiv _ (ix3 a b d))) = _
    rw [reshapeEquiv_ix3_11abc, emb_Or]⟩

/-! ## Which strip an element is of -/

theorem at_oAcc {j : Fin 4} {x : S4x4x64x256.Idx} (h : x ∈ (oAcc j).view.set) : (x 0).val = j.val := by
  obtain ⟨p, -, hp⟩ := Finset.mem_map.mp h
  obtain ⟨a, b, d, rfl⟩ := ex3 p
  have h' : oM.view.emb ((rO j).emb (Shape.reshapeEquiv _ (ix3 a b d))) = x := hp
  rw [reshapeEquiv_ix3_1abc, emb_O] at h'
  subst h'; rfl
theorem at_mlAcc {j : Fin 4} {x : S4x4x2x256.Idx} (h : x ∈ (mlAcc j).view.set) : (x 0).val = j.val := by
  obtain ⟨p, -, hp⟩ := Finset.mem_map.mp h
  obtain ⟨a, b, d, rfl⟩ := ex3 p
  have h' : mlM.view.emb ((rM j).emb (Shape.reshapeEquiv _ (ix3 a b d))) = x := hp
  rw [reshapeEquiv_ix3_1abc, emb_M] at h'
  subst h'; rfl
theorem at_oRx {y : Fin 5 × Fin 4} {x : S5x4x4x64x256.Idx} (h : x ∈ (oRx y.1 y.2).view.set) : (x 0).val = y.1.val ∧ (x 1).val = y.2.val := by
  obtain ⟨p, -, hp⟩ := Finset.mem_map.mp h
  obtain ⟨a, b, d, rfl⟩ := ex3 p
  have h' : orxM.view.emb ((rOr y.1 y.2).emb (Shape.reshapeEquiv _ (ix3 a b d))) = x := hp
  rw [reshapeEquiv_ix3_11abc, emb_Or] at h'
  subst h'; exact ⟨rfl, rfl⟩
theorem at_mlRx {y : Fin 5 × Fin 4} {x : S5x4x4x2x256.Idx} (h : x ∈ (mlRx y.1 y.2).view.set) : (x 0).val = y.1.val ∧ (x 1).val = y.2.val := by
  obtain ⟨p, -, hp⟩ := Finset.mem_map.mp h
  obtain ⟨a, b, d, rfl⟩ := ex3 p
  have h' : mlrxM.view.emb ((rMr y.1 y.2).emb (Shape.reshapeEquiv _ (ix3 a b d))) = x := hp
  rw [reshapeEquiv_ix3_11abc, emb_Mr] at h'
  subst h'; exact ⟨rfl, rfl⟩

theorem dj_oAcc (j j' : Fin 4) (h : j ≠ j') : Disjoint (oAcc j).view.set (oAcc j').view.set :=
  Finset.disjoint_left.mpr fun x h1 h2 => h (Fin.ext ((at_oAcc h1).symm.trans (at_oAcc h2)))
theorem dj_mlAcc (j j' : Fin 4) (h : j ≠ j') : Disjoint (mlAcc j).view.set (mlAcc j').view.set :=
  Finset.disjoint_left.mpr fun x h1 h2 => h (Fin.ext ((at_mlAcc h1).symm.trans (at_mlAcc h2)))
theorem dj_oRx (y y' : Fin 5 × Fin 4) (h : y ≠ y') : Disjoint (oRx y.1 y.2).view.set (oRx y'.1 y'.2).view.set :=
  Finset.disjoint_left.mpr fun x h1 h2 => h (Prod.ext (Fin.ext ((at_oRx h1).1.symm.trans (at_oRx h2).1)) (Fin.ext ((at_oRx h1).2.symm.trans (at_oRx h2).2)))
theorem dj_mlRx (y y' : Fin 5 × Fin 4) (h : y ≠ y') : Disjoint (mlRx y.1 y.2).view.set (mlRx y'.1 y'.2).view.set :=
  Finset.disjoint_left.mpr fun x h1 h2 => h (Prod.ext (Fin.ext ((at_mlRx h1).1.symm.trans (at_mlRx h2).1)) (Fin.ext ((at_mlRx h1).2.symm.trans (at_mlRx h2).2)))

theorem cov_oAcc : (Finset.univ : Finset (Fin 4)).biUnion (β := S4x4x64x256.Idx) (fun j => (oAcc j).view.set) = Finset.univ :=
  Finset.eq_univ_iff_forall.mpr fun x => by
    obtain ⟨j, a, b, d, rfl⟩ := ex4 (n0 := 4) (n1 := 4) (n2 := 64) (n3 := 256) x
    exact Finset.mem_biUnion.mpr ⟨j, Finset.mem_univ _, mem_oAcc j a b d⟩
theorem cov_mlAcc : (Finset.univ : Finset (Fin 4)).biUnion (β := S4x4x2x256.Idx) (fun j => (mlAcc j).view.set) = Finset.univ :=
  Finset.eq_univ_iff_forall.mpr fun x => by
    obtain ⟨j, a, b, d, rfl⟩ := ex4 (n0 := 4) (n1 := 4) (n2 := 2) (n3 := 256) x
    exact Finset.mem_biUnion.mpr ⟨j, Finset.mem_univ _, mem_mlAcc j a b d⟩
theorem cov_oRx : (Finset.univ : Finset (Fin 5 × Fin 4)).biUnion (β := S5x4x4x64x256.Idx) (fun y => (oRx y.1 y.2).view.set) = Finset.univ :=
  Finset.eq_univ_iff_forall.mpr fun x => by
    obtain ⟨s, j, a, b, d, rfl⟩ := ex5 (n0 := 5) (n1 := 4) (n2 := 4) (n3 := 64) (n4 := 256) x
    exact Finset.mem_biUnion.mpr ⟨(s, j), Finset.mem_univ _, mem_oRx s j a b d⟩
theorem cov_mlRx : (Finset.univ : Finset (Fin 5 × Fin 4)).biUnion (β := S5x4x4x2x256.Idx) (fun y => (mlRx y.1 y.2).view.set) = Finset.univ :=
  Finset.eq_univ_iff_forall.mpr fun x => by
    obtain ⟨s, j, a, b, d, rfl⟩ := ex5 (n0 := 5) (n1 := 4) (n2 := 4) (n3 := 2) (n4 := 256) x
    exact Finset.mem_biUnion.mpr ⟨(s, j), Finset.mem_univ _, mem_mlRx s j a b d⟩

/-! ## Whole buffers and their strips -/

/-- A strip of a buffer at some contents. -/
abbrev strip (c : Dev nD) {sh : Shape} {e : EltTy} (M : Memref sig .tc .vmem sh e) : sProp 𝕄 :=
  iprop(∃ f, M.view.loc (c : Thread nD τ) ↦[M.view.set]{fullShare} f)

theorem strip_intro (c : Dev nD) {sh : Shape} {e : EltTy} (M : Memref sig .tc .vmem sh e) (f : Buf (Elt F) (M.view.loc (c : Thread nD τ))) :
    (M.view.loc (c : Thread nD τ) ↦[M.view.set]{fullShare} f : sProp 𝕄) ⊢ strip c M := by iintro H; iexists f; iexact H

/-- A buffer held whole at some contents. -/
abbrev held (c : Dev nD) (b : Ref sig .tc) : sProp 𝕄 := iprop(∃ f : Buf (Elt F) ((c : Thread nD τ).loc b), ((c : Thread nD τ).loc b) ↦{fullShare} f)

section
variable (c : Dev nD)

theorem cut_o : held c cc0_scratch0 ⊢ (bigSep Finset.univ fun j : Fin 4 => strip c (oAcc j) : sProp 𝕄) :=
  exists_elim fun f => (Entails.of_eq (Ring.pointsTo_blocks (ℓ := (c : Thread nD τ).loc cc0_scratch0) (fun j : Fin 4 => (oAcc j).view.set) dj_oAcc cov_oAcc f)).trans
    (bigSep_mono fun j _ => strip_intro c (oAcc j) f)
theorem cut_ml : held c cc0_scratch1 ⊢ (bigSep Finset.univ fun j : Fin 4 => strip c (mlAcc j) : sProp 𝕄) :=
  exists_elim fun f => (Entails.of_eq (Ring.pointsTo_blocks (ℓ := (c : Thread nD τ).loc cc0_scratch1) (fun j : Fin 4 => (mlAcc j).view.set) dj_mlAcc cov_mlAcc f)).trans
    (bigSep_mono fun j _ => strip_intro c (mlAcc j) f)
theorem cut_orx : held c cc0_scratch2 ⊢ (bigSep Finset.univ fun y : Fin 5 × Fin 4 => strip c (oRx y.1 y.2) : sProp 𝕄) :=
  exists_elim fun f => (Entails.of_eq (Ring.pointsTo_blocks (ℓ := (c : Thread nD τ).loc cc0_scratch2) (fun y : Fin 5 × Fin 4 => (oRx y.1 y.2).view.set) dj_oRx cov_oRx f)).trans
    (bigSep_mono fun y _ => strip_intro c (oRx y.1 y.2) f)
theorem cut_mlrx : held c cc0_scratch3 ⊢ (bigSep Finset.univ fun y : Fin 5 × Fin 4 => strip c (mlRx y.1 y.2) : sProp 𝕄) :=
  exists_elim fun f => (Entails.of_eq (Ring.pointsTo_blocks (ℓ := (c : Thread nD τ).loc cc0_scratch3) (fun y : Fin 5 × Fin 4 => (mlRx y.1 y.2).view.set) dj_mlRx cov_mlRx f)).trans
    (bigSep_mono fun y _ => strip_intro c (mlRx y.1 y.2) f)

variable (m : (ℓ : Loc nD τ sig) → Buf (Elt F) ℓ)
include m

theorem join_o : (bigSep Finset.univ fun j : Fin 4 => strip c (oAcc j) : sProp 𝕄) ⊢ held c cc0_scratch0 :=
  Ring.pointsTo_blocks_join_exists (ℓ := (c : Thread nD τ).loc cc0_scratch0) (fun j : Fin 4 => (oAcc j).view.set) dj_oAcc cov_oAcc (m _)
theorem join_ml : (bigSep Finset.univ fun j : Fin 4 => strip c (mlAcc j) : sProp 𝕄) ⊢ held c cc0_scratch1 :=
  Ring.pointsTo_blocks_join_exists (ℓ := (c : Thread nD τ).loc cc0_scratch1) (fun j : Fin 4 => (mlAcc j).view.set) dj_mlAcc cov_mlAcc (m _)
theorem join_orx : (bigSep Finset.univ fun y : Fin 5 × Fin 4 => strip c (oRx y.1 y.2) : sProp 𝕄) ⊢ held c cc0_scratch2 :=
  Ring.pointsTo_blocks_join_exists (ℓ := (c : Thread nD τ).loc cc0_scratch2) (fun y : Fin 5 × Fin 4 => (oRx y.1 y.2).view.set) dj_oRx cov_oRx (m _)
theorem join_mlrx : (bigSep Finset.univ fun y : Fin 5 × Fin 4 => strip c (mlRx y.1 y.2) : sProp 𝕄) ⊢ held c cc0_scratch3 :=
  Ring.pointsTo_blocks_join_exists (ℓ := (c : Thread nD τ).loc cc0_scratch3) (fun y : Fin 5 × Fin 4 => (mlRx y.1 y.2).view.set) dj_mlRx cov_mlRx (m _)

omit m in
/-- The accumulators of strip `j` at some contents are its strips of the two buffers. -/
theorem accs_strip (j : Fin 4) : (iprop(∃ A : Acc F, accs c j A) : sProp 𝕄) = iprop(strip c (oAcc j) ∗ strip c (mlAcc j)) := by
  refine Entails.antisymm ?_ ?_
  · show (_ : sProp 𝕄) ⊢ _
    unfold accs owns
    iintro ⟨%A, ⟨%f, -, H⟩, ⟨%g, -, H'⟩⟩
    isplitl [H]
    · iexists f; iexact H
    · iexists g; iexact H'
  · show (_ : sProp 𝕄) ⊢ _
    unfold accs
    iintro ⟨⟨%f, H⟩, ⟨%g, H'⟩⟩
    iexists (⟨(oAcc j).view.read (Elt F) f, (mlAcc j).view.read (Elt F) g⟩ : Acc F)
    unfold owns
    isplitl [H]
    · iexists f; isplitr; · ipureintro; rfl
      iexact H
    · iexists g; isplitr; · ipureintro; rfl
      iexact H'

end

end Cert.Butterfly

end
-- ==== Proof.BodyEq.lean ====
module

public import proofs.«01_k».proof.Proof.Segs

@[expose] public section

noncomputable section

namespace Cert.Butterfly

open Idealize.ShloMosaic Idealize.SL.Sem
open Cert.KernelIdeal Cert.KernelIdeal.Gen

variable {F : FTy → Type} [FloatOps F]

set_option maxRecDepth 1000000 in
set_option maxHeartbeats 0 in
/-- The printed body is the segments in order. -/
theorem body_eq : cc0_body (F := F) xM (Memref.isWhole_whole _) wqM (Memref.isWhole_whole _) woM (Memref.isWhole_whole _) kM (Memref.isWhole_whole _)
    vM (Memref.isWhole_whole _) outM (Memref.isWhole_whole _) oM (Memref.isWhole_whole _) mlM (Memref.isWhole_whole _) orxM (Memref.isWhole_whole _)
    mlrxM (Memref.isWhole_whole _) cc0_scratch4 cc0_scratch5 cc0_scratch6 cc0_scratch7 = whole := rfl

end Cert.Butterfly

end
-- ==== Proof.Obligation.lean ====
/-
What the pipeline library asks of the kernel's body: from the scratch buffers, the staged windows and what a device
knows of the cells, the body runs to the windows at their contents afterwards, the result's at `outAt`.
-/
module

public import proofs.«01_k».proof.Proof.Whole
public import proofs.«01_k».proof.Proof.Held
public import proofs.«01_k».proof.Proof.BodyEq
public import proofs.«01_k».proof.Proof.Gen.KernelIdeal.Launch
public import proofs.«01_k».proof.Proof.Gen.KernelIdeal.Points

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## What a device starts from, in two parts -/

/-- The positions at the device's own cells and the duty tokens it pays with. -/
def ghost : sProp 𝕄 :=
  iprop((atPos ER (barCell c) 0 ∅ 0 ∗ bigSep Finset.univ fun b : Fin 5 => dutyTok ER (barCell (pt b c)) 0 b)
    ∗ (bigSep Finset.univ fun y : Fin 5 × Fin 4 => startToks (F := F) c y)
    ∗ bigSep Finset.univ fun y : Fin 5 × Fin 4 => iprop(atPos ER (chCell c (0, y)) 0 ∅ 0 ∗ atPos ER (chCell c (1, y)) 0 ∅ 0
        ∗ atPos ER (chCell c (2, y)) 0 ∅ 0 ∗ atPos ER (chCell c (3, y)) 0 ∅ 0))

/-- The credit it waits with. -/
def credits : sProp 𝕄 :=
  iprop(cred (tallyAt (barCell c) () 5)
    ∗ bigSep Finset.univ fun y : Fin 5 × Fin 4 => iprop(cred (tallyAt (chCell c (1, y)) () NO) ∗ cred (tallyAt (chCell c (3, y)) () NM)))

/-- What the launch gives it: the cells' records at some names, and those two. -/
def start : sProp 𝕄 := iprop(((∃ K, records m K) ∗ ghost (F := F) c) ∗ credits (F := F) c ∗ levAts L lv)

/-- Its four scratch buffers. -/
def scratch : sProp 𝕄 := iprop(held c cc0_scratch0 ∗ held c cc0_scratch1 ∗ held c cc0_scratch2 ∗ held c cc0_scratch3)

def Φ₀ : sProp 𝕄 := iprop(start m c ∗ scratch (F := F) c)

/-- Afterwards: the scratch buffers again, and every semaphore closed at zero. -/
def Φ₁ : sProp 𝕄 := iprop(scratch (F := F) c
  ∗ (bigSep Finset.univ fun y : Fin 5 × Fin 4 => iprop(semVal (chCell c (0, y)) 0 ∗ semVal (chCell c (1, y)) 0 ∗ semVal (chCell c (2, y)) 0 ∗ semVal (chCell c (3, y)) 0))
  ∗ semVal (barCell c) 0)

theorem slots_eq : (bigSep Finset.univ fun y : Fin 5 × Fin 4 => slot (F := F) c y : sProp 𝕄)
    = iprop((bigSep Finset.univ fun y : Fin 5 × Fin 4 => strip c (oRx y.1 y.2)) ∗ bigSep Finset.univ fun y : Fin 5 × Fin 4 => strip c (mlRx y.1 y.2)) :=
  (bigSep_congr fun y _ => (rfl : _ = iprop(strip c (oRx y.1 y.2) ∗ strip c (mlRx y.1 y.2)))).trans (bigSep_sep' _ _ _)

theorem accsAny_eq : (accsAny (F := F) c : sProp 𝕄)
    = iprop((bigSep Finset.univ fun j : Fin 4 => strip c (oAcc j)) ∗ bigSep Finset.univ fun j : Fin 4 => strip c (mlAcc j)) :=
  (bigSep_congr fun j _ => accs_strip c j).trans (bigSep_sep' _ _ _)

/-- The parts and the buffers make the body's kit. -/
theorem kit_intro : iprop(ghost (F := F) c ∗ credits (F := F) c ∗ scratch (F := F) c) ⊢ (kit c : sProp 𝕄) := by
  unfold ghost credits scratch kit barKit
  rw [slots_eq, accsAny_eq, show (bigSep Finset.univ fun y : Fin 5 × Fin 4 => waitKit (F := F) c y : sProp 𝕄)
    = iprop((bigSep Finset.univ fun y : Fin 5 × Fin 4 => iprop(atPos ER (chCell c (0, y)) 0 ∅ 0 ∗ atPos ER (chCell c (1, y)) 0 ∅ 0
        ∗ atPos ER (chCell c (2, y)) 0 ∅ 0 ∗ atPos ER (chCell c (3, y)) 0 ∅ 0))
      ∗ bigSep Finset.univ fun y : Fin 5 × Fin 4 => iprop(cred (tallyAt (chCell c (1, y)) () NO) ∗ cred (tallyAt (chCell c (3, y)) () NM))) from by
      rw [← bigSep_sep']
      refine bigSep_congr fun y _ => Entails.antisymm ?_ ?_
      · show (_ : sProp 𝕄) ⊢ _
        unfold waitKit
        iintro ⟨H0, H1, H2, H3, Hc⟩
        isplitr [Hc]
        · isplitl [H0]; · iexact H0
          isplitl [H1]; · iexact H1
          isplitl [H2] <;> iassumption
        · iexact Hc
      · show (_ : sProp 𝕄) ⊢ _
        unfold waitKit
        iintro ⟨⟨H0, H1, H2, H3⟩, Hc⟩
        isplitl [H0]; · iexact H0
        isplitl [H1]; · iexact H1
        isplitl [H2]; · iexact H2
        isplitl [H3] <;> iassumption]
  iintro ⟨⟨⟨Hat, Hdt⟩, Htoks, Hats⟩, ⟨Hcb, Hcs⟩, Ho, Hml, Horx, Hmlrx⟩
  ihave Ho := (cut_o c) $$ Ho
  ihave Hml := (cut_ml c) $$ Hml
  ihave Horx := (cut_orx c) $$ Horx
  ihave Hmlrx := (cut_mlrx c) $$ Hmlrx
  isplitl [Hat Hcb Hdt Horx Hmlrx]
  · isplitl [Hat]; · iexact Hat
    isplitl [Hcb]; · iexact Hcb
    isplitl [Hdt]; · iexact Hdt
    isplitl [Horx] <;> iassumption
  isplitl [Htoks]; · iexact Htoks
  isplitl [Hats Hcs]
  · isplitl [Hats] <;> iassumption
  isplitl [Ho] <;> iassumption

include m in
theorem left_exit : (left (F := F) c : sProp 𝕄) ⊢ Φ₁ (F := F) c := by
  unfold left Φ₁ scratch
  rw [accsAny_eq, show (bigSep Finset.univ fun y : Fin 5 × Fin 4 => doneX (F := F) c y : sProp 𝕄)
    = iprop((bigSep Finset.univ fun y : Fin 5 × Fin 4 => iprop(semVal (chCell c (0, y)) 0 ∗ semVal (chCell c (1, y)) 0 ∗ semVal (chCell c (2, y)) 0 ∗ semVal (chCell c (3, y)) 0))
      ∗ bigSep Finset.univ fun y : Fin 5 × Fin 4 => slot (F := F) c y) from bigSep_sep' _ _ _, slots_eq]
  iintro ⟨⟨Hz, Horx, Hmlrx⟩, ⟨Ho, Hml⟩, Hb⟩
  isplitl [Ho Hml Horx Hmlrx]
  · isplitl [Ho]; · iapply (join_o c m); iexact Ho
    isplitl [Hml]; · iapply (join_ml c m); iexact Hml
    isplitl [Horx]; · iapply (join_orx c m); iexact Horx
    iapply (join_mlrx c m); iexact Hmlrx
  isplitl [Hz] <;> iassumption

/-! ## The pipeline's data and the obligation -/

variable (ρ : Dev nD → PrngReg)

/-- The memory the run starts from, every counter at zero. -/
def s₀ : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => wqStg m c
    | ⟨2, _⟩ => woStg m c
    | ⟨3, _⟩ => kStg m c
    | ⟨4, _⟩ => vStg m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_stg (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X : sProp 𝕄) := by
  unfold owns; simp only [Memref.view_whole, View.read_whole, View.set_whole]
  refine Entails.antisymm ?_ ?_
  · show (_ : sProp 𝕄) ⊢ _
    iintro ⟨%f, %h, H⟩
    subst h; iexact H
  · show (_ : sProp 𝕄) ⊢ _
    iintro H
    iexists X
    isplitr; · (ipureintro; rfl)
    iexact H

theorem before0 (d) : (dats m 0 c).before (0 : Fin 6) t0_0 d = xStg m c := by unfold Dat.before; rw [if_pos (fetch0_0 t0_0)]; rfl
theorem before1 (d) : (dats m 0 c).before (1 : Fin 6) t0_0 d = wqStg m c := by unfold Dat.before; rw [if_pos (fetch0_1 t0_0)]; rfl
theorem before2 (d) : (dats m 0 c).before (2 : Fin 6) t0_0 d = woStg m c := by unfold Dat.before; rw [if_pos (fetch0_2 t0_0)]; rfl
theorem before3 (d) : (dats m 0 c).before (3 : Fin 6) t0_0 d = kStg m c := by unfold Dat.before; rw [if_pos (fetch0_3 t0_0)]; rfl
theorem before4 (d) : (dats m 0 c).before (4 : Fin 6) t0_0 d = vStg m c := by unfold Dat.before; rw [if_pos (fetch0_4 t0_0)]; rfl

/-- The windows conjoined one by one. -/
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

def bodyPre : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost : sProp 𝕄 :=
  iprop(Φ₁ c ∗ (dats m 0 c).owesAt () t0_0.succ ∗ staged m c (outAt m c))

theorem body_run : bodyPre m c ⊢ wpc c whole (fun _ => bodyPost m c) := by
  unfold bodyPre bodyPost Φ₀ start Dat.owesAt Pipeline.owesWithin
  simp only [before0, before1, before2, before3, before4]
  rw [show (dats m 0 c).owed t0_0.castSucc = O₀ c from rfl, show (dats m 0 c).owed t0_0.succ = 0 from rfl]
  iintro ⟨⟨⟨⟨⟨%K, Hrec⟩, Hg⟩, Hcr, Hlev⟩, Hscr⟩, ⟨%W, %hW, HO⟩, ⟨%d0, H0⟩, ⟨%d1, H1⟩, ⟨%d2, H2⟩, ⟨%d3, H3⟩, ⟨%d4, H4⟩, ⟨%d5, H5⟩⟩
  iapply (whole_spec m K c ((dats m 0 c).before (5 : Fin 6) t0_0 d5)) $$ [Hrec Hg Hcr Hlev Hscr HO H0 H1 H2 H3 H4 H5]
  · isplitl [Hrec]; · iexact Hrec
    isplitl [Hlev]; · iexact Hlev
    isplitl [Hg Hcr Hscr]
    · iapply (kit_intro c)
      isplitl [Hg]; · iexact Hg
      isplitl [Hcr] <;> iassumption
    isplitr [HO]
    · unfold staged
      isplitl [H0]; · iexact H0
      isplitl [H1]; · iexact H1
      isplitl [H2]; · iexact H2
      isplitl [H3]; · iexact H3
      isplitl [H4] <;> iassumption
    · unfold owesX; iexists W; iexact HO
  iintro ⟨Hl, Hs, HO⟩
  isplitl [Hl]; · iapply (left_exit m c); iexact Hl
  isplitl [HO]
  · unfold owesX; icases HO with ⟨%W', HO⟩
    iexists W'
    isplitr; · ipureintro; exact fun _ _ => Or.inl trivial
    iexact HO
  iexact Hs

set_option maxRecDepth 1000000 in
theorem body_obligation (c : Dev nD) : BodyObligation (dats (F := F) m 0 c) (defs₀ (F := F)) 𝒱₀ () Set.univ := fun t => by
  rw [fin_N0 t, bigSep_W, bigSep_W]
  simp only [owns_stg]
  show bodyPre m c ⊢ wp frame (wpE (defs₀ (F := F)) 𝒱₀ c none) Set.univ
    (cc0_body (F := F) xM (Memref.isWhole_whole _) wqM (Memref.isWhole_whole _) woM (Memref.isWhole_whole _) kM (Memref.isWhole_whole _)
    vM (Memref.isWhole_whole _) outM (Memref.isWhole_whole _) oM (Memref.isWhole_whole _) mlM (Memref.isWhole_whole _) orxM (Memref.isWhole_whole _)
    mlrxM (Memref.isWhole_whole _) cc0_scratch4 cc0_scratch5 cc0_scratch6 cc0_scratch7) (fun _ => bodyPost m c)
  rw [body_eq]
  exact body_run m c

end Cert.Butterfly

end
-- ==== Proof.Deal.lean ====
/-
The launch's dealing: the ghost state of the cells minted once, each cell's invariant allocated, every duty token handed
to the device that pays with it, and every device's launch credit at its own cells.
-/
module

public import proofs.«01_k».proof.Proof.Obligation

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Conjunctions over the cells of a device -/

/-- Over the options of `A`: none's, and the others'. -/
theorem bigSep_opt {A : Type} [Fintype A] [DecidableEq A] (Φ : Option A → sProp 𝕄) :
    bigSep Finset.univ Φ = iprop(Φ none ∗ bigSep Finset.univ fun a => Φ (some a)) := by
  rw [bigSep_univ_at Φ none, show Finset.univ.erase (none : Option A) = Finset.univ.map Function.Embedding.some from by
    ext a; cases a <;> simp, bigSep_map]; rfl

/-- Over the transfers: exchange by exchange, its four semaphores. -/
theorem bigSep_ch (Φ : Ch → sProp 𝕄) : bigSep Finset.univ Φ
    = bigSep Finset.univ fun y : Fin 5 × Fin 4 => iprop(Φ (0, y) ∗ Φ (1, y) ∗ Φ (2, y) ∗ Φ (3, y)) := by
  rw [bigSep_univ_prod, bigSep_fin4, bigSep_sep', bigSep_sep', bigSep_sep']

/-- The devices paired across bit `b`. -/
def across (b : Fin 5) : Dev nD ≃ Dev nD := ⟨pt b, pt b, fun c => pt_pt b c, fun c => pt_pt b c⟩

/-- What every device holds per index, held by the partner the index names instead. -/
theorem bigSep_across {I : Type} [Fintype I] (f : I → Fin 5) (Φ : Dev nD → I → sProp 𝕄) :
    (bigSep Finset.univ fun c => bigSep Finset.univ fun i => Φ c i) = bigSep Finset.univ fun c => bigSep Finset.univ fun i => Φ (pt (f i) c) i := by
  rw [BI.bigSep_univ_comm, BI.bigSep_univ_comm (fun c i => Φ (pt (f i) c) i)]
  exact bigSep_congr fun i _ => bigSep_univ_equiv (across (f i)) (fun c => Φ c i)

/-! ## Minting -/

theorem kcell_injective : Function.Injective (kcell : Dev nD × Option Ch → GSem nD τ sig) := by
  rintro ⟨c, k⟩ ⟨c', k'⟩ h
  have h1 : c = c' := congrArg (fun g : GSem nD τ sig => g.1.1) h
  have h2 : csem k = csem k' := congrArg Prod.snd h
  have : k = k' := by
    rcases k with _ | x <;> rcases k' with _ | x'
    · rfl
    · exact absurd h2.symm (ch_ne_bar x')
    · exact absurd h2 (ch_ne_bar x)
    · exact congrArg some (chSem_injective h2)
  rw [h1, this]

def allCells : Finset (GSem nD τ sig) := Finset.univ.map ⟨kcell, kcell_injective⟩

/-- The duty tokens of a device's own cells: its barrier's five, and each transfer's one. -/
abbrev tokOf (ck : Dev nD × (Fin 5 ⊕ Ch)) : GSem nD τ sig × ℕ × Fin 5 := match ck.2 with
  | .inl b => (barCell ck.1, 0, b)
  | .inr x => (chCell ck.1 x, 0, 0)

theorem tokOf_injective : Function.Injective tokOf := by
  rintro ⟨c, k⟩ ⟨c', k'⟩ h
  rcases k with b | x <;> rcases k' with b' | x'
  · have h1 : c = c' := congrArg (fun g : GSem nD τ sig × ℕ × Fin 5 => g.1.1.1) h
    have h2 : b = b' := congrArg (fun g : GSem nD τ sig × ℕ × Fin 5 => g.2.2) h
    rw [h1, h2]
  · exact absurd (congrArg (fun g : GSem nD τ sig × ℕ × Fin 5 => g.1.2) h).symm (ch_ne_bar x')
  · exact absurd (congrArg (fun g : GSem nD τ sig × ℕ × Fin 5 => g.1.2) h) (ch_ne_bar x)
  · have h1 : c = c' := congrArg (fun g : GSem nD τ sig × ℕ × Fin 5 => g.1.1.1) h
    have h2 : x = x' := chSem_injective (congrArg (fun g : GSem nD τ sig × ℕ × Fin 5 => g.1.2) h)
    rw [h1, h2]

def allToks : Finset (GSem nD τ sig × ℕ × Fin 5) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun b : Fin 5 => dutyTok ER (barCell c) 0 b) ∗ bigSep Finset.univ fun x : Ch => dutyTok ER (chCell c x) 0 0)

/-- What the minting deals each device. -/
def G (c : Dev nD) : sProp 𝕄 :=
  iprop((bigSep Finset.univ fun k : Option Ch => roundState ER (rd m) (kcell (c, k)) 0)
    ∗ ((bigSep Finset.univ fun k : Option Ch => atPos ER (kcell (c, k)) 0 ∅ 0) ∗ bigSep Finset.univ fun k : Option Ch => reached ER (kcell (c, k)) 0)
    ∗ toks (F := F) c)

/-- What the whole launch makes of it. -/
def G' (c : Dev nD) : sProp 𝕄 := iprop((∃ K, records m K) ∗ ghost (F := F) c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option Ch => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat' Hr']
  · isplitl [Hat'] <;> iassumption
  iexact Htok'

/-! ## The kernel's own semaphores, and the runtime's -/

abbrev osem : Ch → SemLoc sig := chSem

theorem stage_val : ∀ (w : Fin cfg0.W) (s : Fin (cfg0.spec w).nbuf), ((cfg0.spec w).sem s).val < 6 := by decide +kernel

theorem ownSemFacts : Pipeline.OwnSemFacts cfg0.spec osem where
  isScoped := by decide +kernel
  inj := chSem_injective
  disj := fun k w s h => by
    have h2 : (semAt (arr k.1) k.2.1 k.2.2).val < 6 := by
      have h1 : (semAt (arr k.1) k.2.1 k.2.2) = (cfg0.spec w).sem s := SemLoc.dma.inj h
      rw [h1]; exact stage_val w s
    rw [semAt_val] at h2; omega

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (bigSep Finset.univ fun k : Option Ch => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_opt, unscopedSems0_eq]; rfl

/-! ## Allocating, and dealing to the payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ ((bigSep Finset.univ fun k : Option Ch => atPos ER (kcell (c, k)) 0 ∅ 0) ∗ bigSep Finset.univ fun k : Option Ch => reached ER (kcell (c, k)) 0)
          ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option Ch => semVal (kcell (c, k)) 0) ∗ bigSep Finset.univ fun k : Option Ch => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every token with its payer: a barrier's across the token's bit, a receive's across the exchange's. -/
theorem toks_dealt : (bigSep Finset.univ fun c : Dev nD => (toks c : sProp 𝕄))
    = iprop((bigSep Finset.univ fun c : Dev nD => bigSep Finset.univ fun b : Fin 5 => dutyTok ER (barCell (pt b c)) 0 b)
      ∗ bigSep Finset.univ fun c : Dev nD => bigSep Finset.univ fun y : Fin 5 × Fin 4 => startToks (F := F) c y) := by
  unfold toks startToks
  simp only [bigSep_ch, bigSep_sep']
  rw [bigSep_across (fun b : Fin 5 => b) (fun c b => dutyTok ER (barCell c) 0 b),
    bigSep_across (fun y : Fin 5 × Fin 4 => bitOf y.1 y.2) (fun c y => dutyTok ER (chCell c (1, y)) 0 0),
    bigSep_across (fun y : Fin 5 × Fin 4 => bitOf y.1 y.2) (fun c y => dutyTok ER (chCell c (3, y)) 0 0)]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's parts of the dealing are its ghost state. -/
theorem ghost_eq : (bigSep Finset.univ fun c : Dev nD => (ghost c : sProp 𝕄))
    = iprop(((bigSep Finset.univ fun c : Dev nD => atPos ER (barCell c) 0 ∅ 0)
        ∗ bigSep Finset.univ fun c : Dev nD => bigSep Finset.univ fun b : Fin 5 => dutyTok ER (barCell (pt b c)) 0 b)
      ∗ (bigSep Finset.univ fun c : Dev nD => bigSep Finset.univ fun y : Fin 5 × Fin 4 => startToks (F := F) c y)
      ∗ bigSep Finset.univ fun c : Dev nD => bigSep Finset.univ fun x : Ch => atPos ER (chCell c x) 0 ∅ 0) := by
  rw [← bigSep_sep', ← bigSep_sep', ← bigSep_sep']
  exact bigSep_congr fun c _ => by unfold ghost; rw [bigSep_ch]

theorem regroup :
    (bigSep Finset.univ fun c : Dev nD => iprop((bigSep Finset.univ fun k => iprop(∃ κ : ℕ, cellInv ER (rd m) κ (kcell (c, k))))
          ∗ ((bigSep Finset.univ fun k : Option Ch => atPos ER (kcell (c, k)) 0 ∅ 0) ∗ bigSep Finset.univ fun k : Option Ch => reached ER (kcell (c, k)) 0)
          ∗ toks (F := F) c) : sProp 𝕄)
      ⊢ bigSep Finset.univ (G' m) := by
  rw [bigSep_sep', bigSep_sep', bigSep_sep', ← bigSep_univ_prod (fun ck : Dev nD × Option Ch => iprop(∃ κ : ℕ, cellInv ER (rd m) κ (kcell ck))),
    ← bigSep_univ_prod (fun ck : Dev nD × Option Ch => (reached ER (kcell ck) 0 : sProp 𝕄)), toks_dealt,
    bigSep_congr (s := Finset.univ) (fun (c : Dev nD) _ => bigSep_opt (fun k : Option Ch => (atPos ER (kcell (c, k)) 0 ∅ 0 : sProp 𝕄))), bigSep_sep']
  iintro ⟨HI, ⟨⟨Hb, Hx⟩, HR⟩, Htb, Htx⟩
  ihave HK := (BI.bigSep_exists_pi Finset.univ (fun (ck : Dev nD × Option Ch) (κ : ℕ) => (cellInv ER (rd m) κ (kcell ck) : sProp 𝕄))) $$ HI
  icases HK with ⟨%K, HI⟩
  iapply (bigSep_with_persistent (R := records m K) (Φ := fun c => ghost (F := F) c) fun c _ => show _ ⊢ G' m c from by
    unfold G'
    iintro ⟨HR, HG⟩
    isplitl [HR]
    · iexists K; iexact HR
    · iexact HG)
  isplitl [HI HR]
  · unfold records
    iapply (Entails.of_eq (bigSep_sep' Finset.univ (fun ck : Dev nD × Option Ch => (cellInv ER (rd m) (K ck) (kcell ck) : sProp 𝕄)) (fun ck => reached ER (kcell ck) 0)).symm)
    isplitl [HI] <;> iassumption
  · rw [ghost_eq]
    isplitl [Hb Htb]
    · isplitl [Hb] <;> iassumption
    isplitl [Htx] <;> iassumption

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what all devices together owe a cell -/

theorem sum_across (b : Fin 5) (c : Dev nD) (g : Dev nD → GSem nD τ sig) (hg : ∀ a a', g a = g a' → a = a') (N : ℕ) :
    (∑ d : Dev nD, if g c = g (pt b d) ∧ () = () then N else 0) = N := by
  rw [Finset.sum_congr rfl fun d _ => show (if g c = g (pt b d) ∧ () = () then N else 0) = if d = pt b c then N else 0 from by
    by_cases h : d = pt b c
    · subst h; rw [pt_pt, if_pos ⟨rfl, rfl⟩, if_pos rfl]
    · rw [if_neg h, if_neg fun h' => h (by rw [hg _ _ h'.1, pt_pt])],
    Finset.sum_ite_eq' Finset.univ (pt b c) fun _ => N, if_pos (Finset.mem_univ _)]

theorem dev_of_bar (a a' : Dev nD) (h : barCell a = barCell a') : a = a' := congrArg (fun g : GSem nD τ sig => g.1.1) h
theorem dev_of_ch (x : Ch) (a a' : Dev nD) (h : chCell a x = chCell a' x) : a = a' := congrArg (fun g : GSem nD τ sig => g.1.1) h

theorem owedL_bar (d c : Dev nD) : ∀ l, owedL d l (barCell c) () = 0
  | [] => rfl
  | y :: l => by
    unfold owedL
    rw [Pi.add_apply, Finsupp.add_apply, Pi.add_apply, Finsupp.add_apply, tallyAt_apply, tallyAt_apply,
      if_neg fun h => ch_ne_bar _ (congrArg Prod.snd h.1).symm, if_neg fun h => ch_ne_bar _ (congrArg Prod.snd h.1).symm, owedL_bar d c l]

theorem total_bar (c : Dev nD) : ∀ l, (∑ d : Dev nD, barOwed d l (barCell c) ()) = l.length
  | [] => Finset.sum_eq_zero fun d _ => owedL_bar d c order
  | b :: l => by
    unfold barOwed
    rw [Finset.sum_congr rfl fun d _ => by rw [Pi.add_apply, Finsupp.add_apply, tallyAt_apply], Finset.sum_add_distrib, total_bar c l,
      sum_across b c barCell dev_of_bar 1, List.length_cons]

theorem total_owedL (c : Dev nD) (z : Fin 5 × Fin 4) (k : Fin 4) (N : ℕ) (hk : (k = 1 ∧ N = NO) ∨ (k = 3 ∧ N = NM)) :
    ∀ l, (∑ d : Dev nD, owedL d l (chCell c (k, z)) ()) = l.count z * N
  | [] => by rw [List.count_nil, Nat.zero_mul]; exact Finset.sum_eq_zero fun d _ => rfl
  | y :: l => by
    unfold owedL
    rw [Finset.sum_congr rfl fun d _ => by rw [Pi.add_apply, Finsupp.add_apply, Pi.add_apply, Finsupp.add_apply, tallyAt_apply, tallyAt_apply],
      Finset.sum_add_distrib, Finset.sum_add_distrib, total_owedL c z k N hk l, List.count_cons]
    have hne : ∀ (k' : Fin 4) (d : Dev nD), (k', y) ≠ (k, z) → ¬ (chCell c (k, z) = chCell d (k', y) ∧ () = ()) := fun k' d h h' =>
      h (chSem_injective (congrArg Prod.snd h'.1)).symm
    by_cases hy : y = z
    · subst hy
      rcases hk with ⟨rfl, rfl⟩ | ⟨rfl, rfl⟩
      · rw [Finset.sum_eq_zero (f := fun d => if chCell c (1, y) = chCell (pt (bitOf y.1 y.2) d) (3, y) ∧ () = () then NM else 0)
            fun d _ => if_neg (hne 3 _ (by simp)), sum_across _ c (fun a => chCell a (1, y)) (dev_of_ch _) NO]
        simp [Nat.succ_mul]
      · rw [Finset.sum_eq_zero (f := fun d => if chCell c (3, y) = chCell (pt (bitOf y.1 y.2) d) (1, y) ∧ () = () then NO else 0)
            fun d _ => if_neg (hne 1 _ (by simp)), sum_across _ c (fun a => chCell a (3, y)) (dev_of_ch _) NM]
        simp [Nat.succ_mul]
    · rw [Finset.sum_eq_zero (f := fun d => if chCell c (k, z) = chCell (pt (bitOf y.1 y.2) d) (3, y) ∧ () = () then NM else 0)
            fun d _ => if_neg (hne 3 _ fun h => hy (congrArg Prod.snd h)),
          Finset.sum_eq_zero (f := fun d => if chCell c (k, z) = chCell (pt (bitOf y.1 y.2) d) (1, y) ∧ () = () then NO else 0)
            fun d _ => if_neg (hne 1 _ fun h => hy (congrArg Prod.snd h))]
      simp [hy]

theorem barOwed_ch (d c : Dev nD) (x : Ch) : ∀ l, barOwed d l (chCell c x) () = owedL d order (chCell c x) ()
  | [] => rfl
  | b :: l => by
    unfold barOwed
    rw [Pi.add_apply, Finsupp.add_apply, tallyAt_apply, if_neg fun h => ch_ne_bar x (congrArg Prod.snd h.1), barOwed_ch d c x l, Nat.add_zero]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  exact total_bar c [0, 1, 2, 3, 4]

theorem launch_ch (c : Dev nD) (z : Fin 5 × Fin 4) (k : Fin 4) (N : ℕ) (hk : (k = 1 ∧ N = NO) ∨ (k = 3 ∧ N = NM)) :
    tallyOn (chCell c (k, z)) (launchCredit (Pipeline.owing O₀) 0 (chCell c (k, z))) = (tallyAt (chCell c (k, z)) () N : CellTallies nD τ sig Unit) := by
  unfold tallyAt; refine congrArg _ (Finsupp.ext fun u => ?_); cases u
  rw [Pipeline.launchCredit_owing, Finsupp.single_eq_same]
  show (∑ d : Dev nD, barOwed d [0, 1, 2, 3, 4] (chCell c (k, z)) ()) = N
  rw [Finset.sum_congr rfl fun d _ => barOwed_ch d c (k, z) [0, 1, 2, 3, 4], total_owedL c z k N hk,
    show order.count z = 1 by revert z; decide, Nat.one_mul]

theorem credits_intro (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := Finset.univ.map ⟨chSem, chSem_injective⟩) fun s hs => ?_).trans ?_
  · obtain ⟨x, -, rfl⟩ := Finset.mem_map.mp hs
    exact Finset.mem_erase.mpr ⟨ch_ne_bar x, Finset.mem_univ _⟩
  rw [bigSep_map, bigSep_ch]
  refine bigSep_mono fun y _ => ?_
  show (iprop(cred (tallyOn (chCell c (0, y)) (launchCredit (Pipeline.owing O₀) 0 (chCell c (0, y)))) ∗ cred (tallyOn (chCell c (1, y)) (launchCredit (Pipeline.owing O₀) 0 (chCell c (1, y))))
    ∗ cred (tallyOn (chCell c (2, y)) (launchCredit (Pipeline.owing O₀) 0 (chCell c (2, y)))) ∗ cred (tallyOn (chCell c (3, y)) (launchCredit (Pipeline.owing O₀) 0 (chCell c (3, y))))) : sProp 𝕄) ⊢ _
  rw [launch_ch c y 1 NO (.inl ⟨rfl, rfl⟩), launch_ch c y 3 NM (.inr ⟨rfl, rfl⟩)]
  iintro ⟨-, H1, -, H3⟩
  isplitl [H1] <;> iassumption

end Cert.Butterfly

end
-- ==== Proof.Run.lean ====
/-
The run of `main` on the mesh, over any float values: it terminates with every window's array at the contents the
pipeline's data names and every semaphore at zero. The operands are unchanged, the result is `outAt`.
-/
module

public import proofs.«01_k».proof.Proof.Deal
public import Idealize.ShloMosaic.Lib.Pipeline.CollectiveSegs
public import Idealize.ShloMosaic.Lib.Pipeline.ValueKit.Geometry

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  unfold start
  isplitl
  · isplitl [HG]; · unfold G'; iexact HG
    isplitl [Hcr]
    · iapply (credits_intro (F := F) c); iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch held
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq,
    show (Pipeline.ownSems0 osem c : sProp 𝕄) = _ from bigSep_ch (fun x => semVal (chCell c x) 0)]
  unfold Φ₁ scratch held
  iintro ⟨Hr, Hz, Hb⟩
  isplitl [Hb]; · iexact Hb
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (stage_val w s) _ (by
      rcases t with ⟨_ | _, ht⟩
      · exact Or.inl rfl
      · exact Or.inr rfl)

theorem share_eq (c : Dev nD) (w : Fin cfg0.W) : (dats m 0 c).share w = fullShare := by unfold Dat.share; split <;> rfl

/-- A window's array after the run. -/
def finalA (c : Dev nD) (w : Fin cfg0.W) : Buf (Elt F) ((cfg0.win w).arr.view.loc (c : Thread nD τ)) := (dats m 0 c).arrAt w cfg0.N

set_option maxRecDepth 1000000 in
/-- On the mesh of 32 devices, for any float values, from any memory with zero counters, every weakly fair execution of
    `main` terminates, with the arrays as said and every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays -/

theorem final0 (c : Dev nD) : finalA m c (0 : Fin 6) = m ((c : Thread nD τ).loc main_arg0) := (dats (F := F) m 0 c).arrAt_in (0 : Fin 6) rfl _
theorem final1 (c : Dev nD) : finalA m c (1 : Fin 6) = m ((c : Thread nD τ).loc main_arg1) := (dats (F := F) m 0 c).arrAt_in (1 : Fin 6) rfl _
theorem final2 (c : Dev nD) : finalA m c (2 : Fin 6) = m ((c : Thread nD τ).loc main_arg4) := (dats (F := F) m 0 c).arrAt_in (2 : Fin 6) rfl _
theorem final3 (c : Dev nD) : finalA m c (3 : Fin 6) = m ((c : Thread nD τ).loc main_arg2) := (dats (F := F) m 0 c).arrAt_in (3 : Fin 6) rfl _
theorem final4 (c : Dev nD) : finalA m c (4 : Fin 6) = m ((c : Thread nD τ).loc main_arg3) := (dats (F := F) m 0 c).arrAt_in (4 : Fin 6) rfl _
theorem final5 (c : Dev nD) : finalA m c (5 : Fin 6) = outAt m c :=
  (dats (F := F) m 0 c).arrAt_eq_of_after_last (5 : Fin 6) t0_0 (by decide +kernel) (outAt m c) fun j => rfl

/-! ## The staged operands are the arguments -/

theorem xStg_eq (c : Dev nD) : xStg m c = m ((c : Thread nD τ).loc main_arg0) := by
  funext i; refine congrArg (m ((c : Thread nD τ).loc main_arg0)) (funext fun a => Fin.ext ?_)
  exact Window.rect_emb_val_of_index_zero win0_0 t0_0 a (by revert a; decide) i
theorem wqStg_eq (c : Dev nD) : wqStg m c = m ((c : Thread nD τ).loc main_arg1) := by
  funext i; refine congrArg (m ((c : Thread nD τ).loc main_arg1)) (funext fun a => Fin.ext ?_)
  exact Window.rect_emb_val_of_index_zero win0_1 t0_0 a (by revert a; decide) i
theorem woStg_eq (c : Dev nD) : woStg m c = m ((c : Thread nD τ).loc main_arg4) := by
  funext i; refine congrArg (m ((c : Thread nD τ).loc main_arg4)) (funext fun a => Fin.ext ?_)
  exact Window.rect_emb_val_of_index_zero win0_2 t0_0 a (by revert a; decide) i
theorem kStg_eq (c : Dev nD) : kStg m c = m ((c : Thread nD τ).loc main_arg2) := by
  funext i; refine congrArg (m ((c : Thread nD τ).loc main_arg2)) (funext fun a => Fin.ext ?_)
  exact Window.rect_emb_val_of_index_zero win0_3 t0_0 a (by revert a; decide) i
theorem vStg_eq (c : Dev nD) : vStg m c = m ((c : Thread nD τ).loc main_arg3) := by
  funext i; refine congrArg (m ((c : Thread nD τ).loc main_arg3)) (funext fun a => Fin.ext ?_)
  exact Window.rect_emb_val_of_index_zero win0_4 t0_0 a (by revert a; decide) i

end Cert.Butterfly

end
-- ==== Proof.Frames.lean ====
/-
The three frames: each program ends with its arguments unchanged and every semaphore counter at zero. The kernel's two
frames are the one run, of which the bit-level program is the same text.
-/
module

public import proofs.«01_k».proof.Proof.Run
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.Butterfly

open Idealize.ShloMosaic Idealize.ShloMosaic.TcCoe Idealize.SL.Sem

section
open Cert.KernelIdeal Cert.KernelIdeal.Gen
variable {F : FTy → Type} [FloatOps F]

/-- The run with its arrays named: the result at `outAt`, the five arguments unchanged. -/
theorem run_named (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c (5 : Fin 6)).trans (final5 m c), (h.1 c (0 : Fin 6)).trans (final0 m c),
    (h.1 c (1 : Fin 6)).trans (final1 m c), (h.1 c (3 : Fin 6)).trans (final3 m c), (h.1 c (4 : Fin 6)).trans (final4 m c),
    (h.1 c (2 : Fin 6)).trans (final2 m c)⟩, h.2⟩) (run_main m ρ)
end

theorem frame_kernelIdeal : Cert.quiescent_KernelIdeal := fun m ρ _ =>
  (θ_run Cert.KernelIdeal.defs _ _).mono (fun _ h => ⟨fun c => (h.1 c).2, h.2⟩) (run_named (F := Ideal) m ρ)

/-! ## The bit-level program's text is the ideal one's -/

set_option maxRecDepth 1000000 in
theorem body_same : @Cert.Kernel.cc0_body Bits _ _ = @Cert.KernelIdeal.cc0_body Bits _ _ := rfl

theorem rows_same : (@Cert.Kernel.defs₀ Bits _ _ : Defs _ _ _ _ _) = @Cert.KernelIdeal.defs₀ Bits _ _ := by
  unfold Cert.Kernel.defs₀ Cert.KernelIdeal.defs₀
  refine congrArg Defs.onTc (funext fun x => funext fun y => ?_)
  fin_cases x
  obtain ⟨t, s⟩ := y
  show Cert.Kernel.cc0_body _ _ _ _ _ _ _ _ _ _ _ _ _ _ _ _ _ _ _ _ _ _ _ _ = _
  rw [body_same]

theorem defs_same : @Cert.Kernel.defs Bits _ _ = @Cert.KernelIdeal.defs Bits _ _ :=
  congrArg (Pipeline.defs (Cert.KernelIdeal.pcfgs (F := Bits))) rows_same

theorem frame_kernel : Cert.quiescent_Kernel := fun m ρ _ => by
  rw [defs_same]
  exact (θ_run Cert.KernelIdeal.defs _ _).mono (fun _ h => ⟨fun c => (h.1 c).2, h.2⟩) (run_named (F := Bits) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Butterfly

end
-- ==== Proof.Softmax.lean ====
/-
Weighted sums of exponentials over sets of keys, at the extended reals: the sum over two sets apart, each taken
relative to its own maximum, rescaled to the common maximum and added, is the sum over both sets.
-/
module

public import Idealize.ShloMosaic.PureOps.Ideal.Laws
public import Idealize.ShloMosaic.Lib.IdealHost

@[expose] public section

noncomputable section

namespace Cert.Butterfly

open Idealize.ShloMosaic
open scoped BigOperators

variable {ι : Type}

/-! ## Extended reals -/

/-- A factor that is neither negative nor infinite goes into a sum. -/
theorem mul_sum_of_nonneg {a : EReal} (h0 : 0 ≤ a) (ht : a ≠ ⊤) (s : Finset ι) (f : ι → EReal) :
    a * ∑ k ∈ s, f k = ∑ k ∈ s, a * f k := by
  classical
  induction s using Finset.induction_on with
  | empty => simp
  | insert k s hk ih => rw [Finset.sum_insert hk, Finset.sum_insert hk, EReal.left_distrib_of_nonneg_of_ne_top h0 ht, ih]

theorem sum_mul_of_nonneg {a : EReal} (h0 : 0 ≤ a) (ht : a ≠ ⊤) (s : Finset ι) (f : ι → EReal) :
    (∑ k ∈ s, f k) * a = ∑ k ∈ s, f k * a := by
  rw [mul_comm, mul_sum_of_nonneg h0 ht]; exact Finset.sum_congr rfl fun k _ => mul_comm _ _

/-- A value that is not infinite. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {f : ι → EReal} (s : Finset ι) (h : ∀ k, IsReal (f k)) : IsReal (∑ k ∈ s, f k) := by
  classical
  induction s using Finset.induction_on with
  | empty => exact ⟨0, by simp⟩
  | insert k s hk ih => rw [Finset.sum_insert hk]; exact (h k).add ih

theorem exp_nonneg (x : EReal) : 0 ≤ Ideal.exp x := by
  induction x using EReal.rec with
  | bot => exact le_refl _
  | coe r => exact EReal.coe_nonneg.2 (Real.exp_pos r).le
  | top => exact le_top

theorem exp_sub_real (a b : ℝ) : Ideal.exp ((a : EReal) - (b : EReal)) = ((Real.exp (a - b) : ℝ) : EReal) := by
  rw [← EReal.coe_sub]; rfl

/-! ## The constants -/

/-- The score's scale, 0.125. -/
def scale : EReal := Ideal.ofBits .f32 0x3E000000#32

theorem scale_eq : scale = (((8388608 : ℝ) * (2 ^ 26)⁻¹ : ℝ) : EReal) := by simp [scale, Ideal.ofBits, Ideal.ieee]
theorem scale_real : IsReal scale := ⟨_, scale_eq⟩
theorem scale_nonneg : 0 ≤ scale := by rw [scale_eq]; exact EReal.coe_nonneg.2 (by positivity)
theorem scale_ne_top : scale ≠ ⊤ := by rw [scale_eq]; exact EReal.coe_ne_top _
theorem ofBits_neg_inf : Ideal.ofBits .f32 0xFF800000#32 = ⊥ := by simp [Ideal.ofBits, Ideal.ieee]

/-! ## One set of keys -/

/-- The greatest score. -/
def top (s : ι → EReal) (G : Finset ι) : EReal := G.sup s

/-- The values weighted by the exponentials of the scores less the greatest. -/
def wt (s v : ι → EReal) (G : Finset ι) : EReal := ∑ k ∈ G, v k * Ideal.exp (s k - top s G)

/-- The exponentials' sum. -/
def den (s : ι → EReal) (G : Finset ι) : EReal := ∑ k ∈ G, Ideal.exp (s k - top s G)

theorem den_eq_wt (s : ι → EReal) (G : Finset ι) : den s G = wt s (fun _ => 1) G :=
  Finset.sum_congr rfl fun k _ => (one_mul _).symm

theorem top_real {s : ι → EReal} (hs : ∀ k, IsReal (s k)) {G : Finset ι} (hG : G.Nonempty) : IsReal (top s G) := by
  obtain ⟨k, _, h⟩ := Finset.exists_mem_eq_sup G hG s
  show IsReal (G.sup s)
  rw [h]; exact hs k

theorem top_union [DecidableEq ι] (s : ι → EReal) (G H : Finset ι) : max (top s G) (top s H) = top s (G ∪ H) :=
  (Finset.sup_union).symm

/-- A sum taken relative to one bound, rescaled to another. -/
theorem rescale {s : ι → EReal} (hs : ∀ k, IsReal (s k)) (v : ι → EReal) (G : Finset ι) {a b : EReal} (ha : IsReal a) (hb : IsReal b) :
    Ideal.exp (a - b) * ∑ k ∈ G, v k * Ideal.exp (s k - a) = ∑ k ∈ G, v k * Ideal.exp (s k - b) := by
  obtain ⟨a, rfl⟩ := ha; obtain ⟨b, rfl⟩ := hb
  rw [mul_sum_of_nonneg (exp_nonneg _) (by rw [exp_sub_real]; exact EReal.coe_ne_top _)]
  refine Finset.sum_congr rfl fun k _ => ?_
  obtain ⟨r, hr⟩ := hs k
  rw [hr, exp_sub_real, exp_sub_real, exp_sub_real, mul_comm, mul_assoc, ← EReal.coe_mul, ← Real.exp_add]
  congr 3; ring_nf

/-- Two sets apart. -/
theorem wt_union [DecidableEq ι] {s : ι → EReal} (hs : ∀ k, IsReal (s k)) (v : ι → EReal) {G H : Finset ι} (hG : G.Nonempty) (hH : H.Nonempty)
    (hd : Disjoint G H) :
    Ideal.exp (top s G - max (top s G) (top s H)) * wt s v G + Ideal.exp (top s H - max (top s G) (top s H)) * wt s v H = wt s v (G ∪ H) := by
  have hU : IsReal (top s (G ∪ H)) := top_real hs (hG.mono Finset.subset_union_left)
  rw [top_union]
  unfold wt
  rw [rescale hs v G (top_real hs hG) hU, rescale hs v H (top_real hs hH) hU, Finset.sum_union hd]

theorem den_union [DecidableEq ι] {s : ι → EReal} (hs : ∀ k, IsReal (s k)) {G H : Finset ι} (hG : G.Nonempty) (hH : H.Nonempty) (hd : Disjoint G H) :
    Ideal.exp (top s G - max (top s G) (top s H)) * den s G + Ideal.exp (top s H - max (top s G) (top s H)) * den s H = den s (G ∪ H) := by
  rw [den_eq_wt, den_eq_wt, den_eq_wt]; exact wt_union hs _ hG hH hd

theorem den_ne_zero {s : ι → EReal} (hs : ∀ k, IsReal (s k)) {G : Finset ι} (hG : G.Nonempty) : den s G ≠ 0 := by
  obtain ⟨k, hk⟩ := hG
  obtain ⟨a, ha⟩ := hs k
  obtain ⟨t, ht⟩ := top_real hs ⟨k, hk⟩
  have h1 : (0 : EReal) < Ideal.exp (s k - top s G) := by
    rw [ha, ht, exp_sub_real]; exact EReal.coe_pos.2 (Real.exp_pos _)
  exact (lt_of_lt_of_le h1 (Finset.single_le_sum (f := fun k => Ideal.exp (s k - top s G)) (fun _ _ => exp_nonneg _) hk)).ne'

/-! ## Keys renamed -/

section Rename
variable {κ : Type} [Fintype ι] [Fintype κ]

theorem top_equiv (e : ι ≃ κ) (s : κ → EReal) : top (fun i => s (e i)) Finset.univ = top s Finset.univ := by
  unfold top
  rw [Finset.sup_univ_eq_iSup, Finset.sup_univ_eq_iSup]; exact e.iSup_comp (g := s)

theorem wt_equiv (e : ι ≃ κ) (s v : κ → EReal) : wt (fun i => s (e i)) (fun i => v (e i)) Finset.univ = wt s v Finset.univ := by
  unfold wt
  rw [top_equiv e s]; exact e.sum_comp fun k => v k * Ideal.exp (s k - top s Finset.univ)

theorem den_equiv (e : ι ≃ κ) (s : κ → EReal) : den (fun i => s (e i)) Finset.univ = den s Finset.univ := by
  unfold den
  rw [top_equiv e s]; exact e.sum_comp fun k => Ideal.exp (s k - top s Finset.univ)

end Rename

/-! ## The keys of one device -/

section Row
variable {δ κ : Type} [Fintype κ]

theorem top_row (s : δ × κ → EReal) (c : δ) : top s ({c} ×ˢ Finset.univ) = Finset.univ.fold max ⊥ fun k => s (c, k) := by
  show Finset.sup _ _ = Finset.univ.sup fun k => s (c, k)
  rw [Finset.sup_product_left, Finset.sup_singleton]

theorem wt_row (s v : δ × κ → EReal) (c : δ) :
    wt s v ({c} ×ˢ Finset.univ) = ∑ k, v (c, k) * Ideal.exp (s (c, k) - Finset.univ.fold max ⊥ fun k => s (c, k)) := by
  unfold wt; rw [top_row, Finset.sum_product, Finset.sum_singleton]

theorem den_row (s : δ × κ → EReal) (c : δ) :
    den s ({c} ×ˢ Finset.univ) = ∑ k, Ideal.exp (s (c, k) - Finset.univ.fold max ⊥ fun k => s (c, k)) := by
  unfold den; rw [top_row, Finset.sum_product, Finset.sum_singleton]

end Row

end Cert.Butterfly

end
-- ==== Proof.Values.lean ====
/-
What the kernel's values are at an index, over the extended reals: the queries, the scores, one device's statistics, a
combination and a projected head, each as a sum over one coordinate.
-/
module

public import proofs.«01_k».proof.Proof.Contents
public import proofs.«01_k».proof.Proof.Softmax
public import Idealize.ShloMosaic.Lib.Pointwise

@[expose] public section

noncomputable section

namespace Cert.Butterfly

open Idealize.ShloMosaic Idealize.SL.Sem
open Cert.KernelIdeal Cert.KernelIdeal.Gen
open scoped BigOperators

/-! ## The staged arrays -/

theorem xVal_apply (x : FVec Ideal S2x256x768 .bf16) (r : Fin 512) (t : Fin 768) :
    xVal x (ix2 r t) = x (ix3 ⟨r.val / 256, by omega⟩ ⟨r.val % 256, by omega⟩ t) := by
  pointwise [xVal]
theorem wqVal_apply (x : FVec Ideal S768x512 .bf16) (r : Fin 768) (t : Fin 512) : wqVal x (ix2 r t) = x (ix2 r t) := by
  pointwise [wqVal]
theorem woVal_apply (x : FVec Ideal S512x768 .bf16) (r : Fin 512) (t : Fin 768) : woVal x (ix2 r t) = x (ix2 r t) := by
  pointwise [woVal]

theorem kv_read (b : Fin 2) (k : FVec Ideal S2x512x8x64 .bf16) (z : Fin 1) (r : Fin 512) (h : Fin 8) (e : Fin 64) :
    kM.view.readAt (Elt Ideal) (rK b).toLoadRect k (ix4 z r h e) = k (ix4 b r h e) := by
  show k ((rK b).emb (ix4 z r h e)) = _
  congr 1
  funext k; refine Fin.ext ?_
  show (![b.val, 0, 0, 0] : Fin 4 → ℕ) k + 1 * (ix4 z r h e k).val = _
  fin_cases k <;> simp

theorem kv_cast (A : FVec Ideal S1x512x8x64 .bf16) (r t : Fin 512) :
    shapeCast S512x512 (shapeCast S512x8x64 A shapeCasts_S1x512x8x64_S512x8x64) shapeCasts_S512x8x64_S512x512 (ix2 r t)
      = A (ix4 0 r ⟨t.val / 64, by omega⟩ ⟨t.val % 64, by omega⟩) := by
  pointwise

theorem kvVal_apply (b : Fin 2) (k : FVec Ideal S2x512x8x64 .bf16) (r t : Fin 512) :
    kvVal b k (ix2 r t) = k (ix4 b r ⟨t.val / 64, by omega⟩ ⟨t.val % 64, by omega⟩) :=
  (kv_cast _ r t).trans (kv_read b k 0 r _ _)

/-! ## One device's attention -/

theorem qOf_apply (j : Fin 4) (wq : FVec Ideal S768x512 .bf16) (x : FVec Ideal S512x768 .bf16) (r q : Fin 256) :
    qOf j wq x (ix2 r q) = (∑ t : Fin 768, wq (ix2 t ⟨j.val % 2 * 256 + r.val, by omega⟩) * x (ix2 ⟨j.val / 2 * 256 + q.val, by omega⟩ t)) * scale := by
  pointwise [qOf, scale]

theorem sOf_apply (j i : Fin 4) (qs : FVec Ideal S256x256 .bf16) (k : FVec Ideal S512x512 .bf16) (r : Fin 512) (q : Fin 256) :
    sOf j i qs k (ix2 r q)
      = ∑ e : Fin 64, k (ix2 r ⟨(j.val % 2 * 4 + i.val) * 64 + e.val, by omega⟩) * qs (ix2 ⟨i.val * 64 + e.val, by omega⟩ q) := by
  pointwise [sOf]

theorem mOf_apply (s : FVec Ideal S512x256 .f32) (z : Fin 1) (q : Fin 256) :
    mOf s (ix2 z q) = Finset.univ.fold max ⊥ fun r : Fin 512 => s (ix2 r q) := by
  pointwise [mOf]
  rw [ofBits_neg_inf]

theorem lOf_apply (s : FVec Ideal S512x256 .f32) (z : Fin 1) (q : Fin 256) :
    lOf s (ix2 z q) = ∑ r : Fin 512, Ideal.exp (s (ix2 r q) - Finset.univ.fold max ⊥ fun r : Fin 512 => s (ix2 r q)) := by
  pointwise [lOf, pOf]
  refine Finset.sum_congr rfl fun r _ => ?_
  rw [mOf_apply]

theorem oOf_apply (j i : Fin 4) (s : FVec Ideal S512x256 .f32) (v : FVec Ideal S512x512 .bf16) (e : Fin 64) (q : Fin 256) :
    oOf j i s v (ix2 e q) = ∑ r : Fin 512, v (ix2 r ⟨(j.val % 2 * 4 + i.val) * 64 + e.val, by omega⟩)
      * Ideal.exp (s (ix2 r q) - Finset.univ.fold max ⊥ fun r : Fin 512 => s (ix2 r q)) := by
  pointwise [oOf, pOf]
  refine Finset.sum_congr rfl fun r _ => ?_
  rw [mOf_apply]

/-! ## A combination -/

theorem mNew_apply (m1 m2 : FVec Ideal S4x1x256 .f32) (i : Fin 4) (z : Fin 1) (q : Fin 256) :
    mNew m1 m2 (ix3 i z q) = max (m1 (ix3 i z q)) (m2 (ix3 i z q)) := by
  pointwise [mNew]

theorem lNew_apply (m1 l1 m2 l2 : FVec Ideal S4x1x256 .f32) (i : Fin 4) (z : Fin 1) (q : Fin 256) :
    lNew m1 l1 m2 l2 (ix3 i z q)
      = Ideal.exp (m1 (ix3 i z q) - max (m1 (ix3 i z q)) (m2 (ix3 i z q))) * l1 (ix3 i z q)
        + Ideal.exp (m2 (ix3 i z q) - max (m1 (ix3 i z q)) (m2 (ix3 i z q))) * l2 (ix3 i z q) := by
  pointwise [lNew, aNew, mNew]

theorem oNew_apply (m1 m2 : FVec Ideal S4x1x256 .f32) (o1 o2 : FVec Ideal S4x64x256 .bf16) (i : Fin 4) (e : Fin 64) (q : Fin 256) :
    oNew m1 m2 o1 o2 (ix3 i e q)
      = Ideal.exp (m1 (ix3 i 0 q) - max (m1 (ix3 i 0 q)) (m2 (ix3 i 0 q))) * o1 (ix3 i e q)
        + Ideal.exp (m2 (ix3 i 0 q) - max (m1 (ix3 i 0 q)) (m2 (ix3 i 0 q))) * o2 (ix3 i e q) := by
  pointwise [oNew, aNew, mNew]

/-! ## A strip's projection -/

theorem projOf_apply (j i : Fin 4) (l : FVec Ideal S4x1x256 .f32) (wo : FVec Ideal S512x768 .bf16) (o : FVec Ideal S64x256 .bf16)
    (q : Fin 256) (d : Fin 768) :
    projOf j i (linvOf l) wo o (ix2 q d)
      = ∑ e : Fin 64, o (ix2 e q) * Ideal.div 1 (l (ix3 i 0 q)) * wo (ix2 ⟨(j.val % 2 * 4 + i.val) * 64 + e.val, by omega⟩ d) := by
  pointwise [projOf, linvOf]

theorem accOf_apply (j : Fin 4) (linv : FVec Ideal S4x1x256 .f32) (wo : FVec Ideal S512x768 .bf16) (o0 o1 o2 o3 : FVec Ideal S64x256 .bf16)
    (p : S256x768.Idx) :
    accOf j linv wo o0 o1 o2 o3 p = projOf j 0 linv wo o0 p + projOf j 1 linv wo o1 p + projOf j 2 linv wo o2 p + projOf j 3 linv wo o3 p := by
  show Ideal.ofBits .f32 0x00000000#32 + _ + _ + _ + _ = _
  rw [Ideal.ofBits_zero_f32, zero_add]

end Cert.Butterfly

end
-- ==== Proof.RefValues.lean ====
/-
The reference's result at an index, over the extended reals: for each query, the values weighted by the exponentials of
the scores less the greatest, over their sum, projected.
-/
module

public import proofs.«01_k».proof.Proof.Gen.ReferenceIdeal.Run
public import proofs.«01_k».proof.Proof.Softmax
public import Idealize.ShloMosaic.Lib.Pointwise

@[expose] public section

noncomputable section

namespace Cert.Butterfly.Ref

open Idealize.ShloMosaic Idealize.SL.Sem
open Cert.ReferenceIdeal Cert.ReferenceIdeal.Gen
open scoped BigOperators

/-- The scaled scores of every query against every key. -/
def scores (X : FVec Ideal S2x256x768 .bf16) (WQ : FVec Ideal S768x512 .bf16) (K : FVec Ideal S2x16384x8x64 .bf16) : FVec Ideal S2x8x256x16384 .f32 :=
  mulf (extf .f32 (truncf .bf16 (Host.dotGeneral dot_S2x256x8x64_S2x16384x8x64_S2x8x256x16384_3_3_1_1_02_02 none (shapeCast _ (truncf .bf16 (Host.dotGeneral dot_S2x256x768_S768x512_S2x256x512_2_0_01_1_n_n none X WQ) bitsLt_bf16_f32) shapeCasts_S2x256x512_S2x256x8x64) K) bitsLt_bf16_f32) bitsLt_bf16_f32) (broadcastInDim S2x8x256x16384 ![] bcast_S_S2x8x256x16384 (constant S_ .f32 0x3E000000#32))

/-- Their exponentials, less the greatest of each query. -/
def weights (S : FVec Ideal S2x8x256x16384 .f32) : FVec Ideal S2x8x256x16384 .f32 :=
  Host.exp (subf S (broadcastInDim S2x8x256x16384 ![0, 1, 2, 3] bcast_S2x8x256x1_S2x8x256x16384_0_1_2_3 (broadcastInDim S2x8x256x1 ![0, 1, 2] bcast_S2x8x256_S2x8x256x1_0_1_2 (Host.reduce FloatOps.maximumf S (constant S_ .f32 0xFF800000#32) reducesTo_S2x8x256x16384_S2x8x256_d3 h_S_))))

/-- The weighted values over the weights' sum. -/
def heads (P : FVec Ideal S2x8x256x16384 .f32) (V : FVec Ideal S2x16384x8x64 .bf16) : FVec Ideal S2x256x8x64 .f32 :=
  Host.divf (transpose S2x256x8x64 [0, 3, 1, 2] (Host.dotGeneral dot_S2x16384x8x64_S2x8x256x16384_S2x8x64x256_1_3_3_2_02_01 none V P) transposes_S2x8x64x256_S2x256x8x64_0_3_1_2)
    (broadcastInDim S2x256x8x64 ![0, 1, 2, 3] bcast_S2x256x8x1_S2x256x8x64_0_1_2_3 (transpose S2x256x8x1 [0, 2, 1, 3] (broadcastInDim S2x8x256x1 ![0, 1, 2] bcast_S2x8x256_S2x8x256x1_0_1_2 (Host.reduceAdd P (constant S_ .f32 0x00000000#32) reducesTo_S2x8x256x16384_S2x8x256_d3 h_S_)) transposes_S2x8x256x1_S2x256x8x1_0_2_1_3))

/-- The heads projected. -/
def project (O : FVec Ideal S2x256x8x64 .f32) (WO : FVec Ideal S512x768 .bf16) : FVec Ideal S2x256x768 .f32 :=
  Host.dotGeneral dot_S2x256x512_S512x768_S2x256x768_2_0_01_1_n_n none (shapeCast _ O shapeCasts_S2x256x8x64_S2x256x512) WO

/-- The score of one query against one key. -/
def score (X : FVec Ideal S2x256x768 .bf16) (WQ : FVec Ideal S768x512 .bf16) (K : FVec Ideal S2x16384x8x64 .bf16)
    (b : Fin 2) (h : Fin 8) (q : Fin 256) (k : Fin 16384) : EReal :=
  (∑ e : Fin 64, (∑ t : Fin 768, X (ix3 b q t) * WQ (ix2 t ⟨h.val * 64 + e.val, by omega⟩)) * K (ix4 b k h e)) * scale

theorem score_real {X : FVec Ideal S2x256x768 .bf16} {WQ : FVec Ideal S768x512 .bf16} {K : FVec Ideal S2x16384x8x64 .bf16}
    (hX : ∀ p, IsReal (X p)) (hW : ∀ p, IsReal (WQ p)) (hK : ∀ p, IsReal (K p)) (b : Fin 2) (h : Fin 8) (q : Fin 256) (k : Fin 16384) :
    IsReal (score X WQ K b h q k) :=
  (IsReal.sum _ fun e => (IsReal.sum _ fun t => (hX _).mul (hW _)).mul (hK _)).mul scale_real

theorem scores_apply (X : FVec Ideal S2x256x768 .bf16) (WQ : FVec Ideal S768x512 .bf16) (K : FVec Ideal S2x16384x8x64 .bf16)
    (b : Fin 2) (h : Fin 8) (q : Fin 256) (k : Fin 16384) :
    scores X WQ K (ix4 b h q k) = score X WQ K b h q k := by
  pointwise [scores, score, scale]

theorem weights_apply (S : FVec Ideal S2x8x256x16384 .f32) (b : Fin 2) (h : Fin 8) (q : Fin 256) (k : Fin 16384) :
    weights S (ix4 b h q k) = Ideal.exp (S (ix4 b h q k) - top (fun k => S (ix4 b h q k)) Finset.univ) := by
  pointwise [weights]
  rw [ofBits_neg_inf]; rfl

theorem heads_apply (P : FVec Ideal S2x8x256x16384 .f32) (V : FVec Ideal S2x16384x8x64 .bf16) (b : Fin 2) (q : Fin 256) (h : Fin 8) (e : Fin 64) :
    heads P V (ix4 b q h e) = Ideal.div (∑ k : Fin 16384, V (ix4 b k h e) * P (ix4 b h q k)) (∑ k : Fin 16384, P (ix4 b h q k)) := by
  pointwise [heads]

theorem project_apply (O : FVec Ideal S2x256x8x64 .f32) (WO : FVec Ideal S512x768 .bf16) (b : Fin 2) (q : Fin 256) (d : Fin 768) :
    project O WO (ix3 b q d) = ∑ h : Fin 8, ∑ e : Fin 64, O (ix4 b q h e) * WO (ix2 ⟨h.val * 64 + e.val, by omega⟩ d) := by
  have hp : project O WO (ix3 b q d)
      = ∑ x : Fin 512, O (ix4 b q ⟨x.val / 64, by omega⟩ ⟨x.val % 64, by omega⟩) * WO (ix2 x d) := by
    pointwise [project]
  rw [hp, ← (finProdFinEquiv (m := 8) (n := 64)).sum_comp, Fintype.sum_prod_type]
  refine Finset.sum_congr rfl fun h _ => Finset.sum_congr rfl fun e _ => ?_
  have hd : (⟨(finProdFinEquiv (m := 8) (n := 64) (h, e)).val / 64, by omega⟩ : Fin 8) = h :=
    Fin.ext (by show (e.val + 64 * h.val) / 64 = h.val; omega)
  have hm : (⟨(finProdFinEquiv (m := 8) (n := 64) (h, e)).val % 64, by omega⟩ : Fin 64) = e :=
    Fin.ext (by show (e.val + 64 * h.val) % 64 = e.val; omega)
  have hx : finProdFinEquiv (m := 8) (n := 64) (h, e) = ⟨h.val * 64 + e.val, by omega⟩ :=
    Fin.ext (by show e.val + 64 * h.val = h.val * 64 + e.val; omega)
  exact congrArg₂ (· * ·) (congrArg₂ (fun a b' => O (ix4 b q a b')) hd hm) (congrArg (fun a => WO (ix2 a d)) hx)

/-- The reference's result. -/
def out (X : FVec Ideal S2x256x768 .bf16) (WQ : FVec Ideal S768x512 .bf16) (K V : FVec Ideal S2x16384x8x64 .bf16) (WO : FVec Ideal S512x768 .bf16) :
    FVec Ideal S2x256x768 .f32 := project (heads (weights (scores X WQ K)) V) WO

theorem out_apply (X : FVec Ideal S2x256x768 .bf16) (WQ : FVec Ideal S768x512 .bf16) (K V : FVec Ideal S2x16384x8x64 .bf16) (WO : FVec Ideal S512x768 .bf16)
    (b : Fin 2) (q : Fin 256) (d : Fin 768) :
    out X WQ K V WO (ix3 b q d) = ∑ h : Fin 8, ∑ e : Fin 64,
      Ideal.div (wt (score X WQ K b h q) (fun k => V (ix4 b k h e)) Finset.univ) (den (score X WQ K b h q) Finset.univ)
        * WO (ix2 ⟨h.val * 64 + e.val, by omega⟩ d) := by
  unfold out
  rw [project_apply]
  refine Finset.sum_congr rfl fun h _ => Finset.sum_congr rfl fun e _ => ?_
  have hs : (fun k => scores X WQ K (ix4 b h q k)) = score X WQ K b h q := funext fun k => scores_apply X WQ K b h q k
  have hw : ∀ k, weights (scores X WQ K) (ix4 b h q k) = Ideal.exp (score X WQ K b h q k - top (score X WQ K b h q) Finset.univ) := fun k => by
    rw [weights_apply, hs, scores_apply]
  rw [heads_apply]
  unfold wt den
  simp only [hw]

end Cert.Butterfly.Ref

end
-- ==== Proof.Spread.lean ====
/-
What a strip's accumulators hold before each step: the statistics of its heads over the keys of the devices whose parts
have reached this one. Each step doubles that set; after five it is every device.
-/
module

public import proofs.«01_k».proof.Proof.Values
public import proofs.«01_k».proof.Proof.RefValues

@[expose] public section

noncomputable section

namespace Cert.Butterfly

open Idealize.ShloMosaic Idealize.SL.Sem
open Cert.KernelIdeal Cert.KernelIdeal.Gen
open scoped BigOperators

/-! ## The devices reached -/

/-- The devices whose keys device `c`'s accumulators of strip `j` cover before step `s`. -/
def grp (j : Fin 4) : ℕ → Dev nD → Finset (Dev nD)
  | 0 => fun c => {c}
  | s + 1 => fun c => grp j s c ∪ grp j s (pt (bitN s j) c)

theorem grp_disjoint : ∀ (j : Fin 4) (s : Fin 5) (c : Dev nD), Disjoint (grp j s.val c) (grp j s.val (pt (bitN s.val j) c)) := by decide +kernel
theorem grp_full : ∀ (j : Fin 4) (c : Dev nD), grp j 5 c = Finset.univ := by decide +kernel

theorem grp_nonempty (j : Fin 4) (s : ℕ) (c : Dev nD) : (grp j s c).Nonempty := by
  induction s with
  | zero => exact Finset.singleton_nonempty c
  | succ s ih => exact ih.mono Finset.subset_union_left

/-- Their keys. -/
def keys (j : Fin 4) (s : ℕ) (c : Dev nD) : Finset (Dev nD × Fin 512) := grp j s c ×ˢ Finset.univ

theorem keys_nonempty (j : Fin 4) (s : ℕ) (c : Dev nD) : (keys j s c).Nonempty :=
  (grp_nonempty j s c).product ⟨0, Finset.mem_univ _⟩

theorem keys_disjoint (j : Fin 4) (s : ℕ) (hs : s < 5) (c : Dev nD) : Disjoint (keys j s c) (keys j s (pt (bitN s j) c)) :=
  Finset.disjoint_product.2 (.inl (grp_disjoint j ⟨s, hs⟩ c))

theorem keys_succ (j : Fin 4) (s : ℕ) (c : Dev nD) : keys j (s + 1) c = keys j s c ∪ keys j s (pt (bitN s j) c) :=
  Finset.union_product

theorem keys_full (j : Fin 4) (c : Dev nD) : keys j 5 c = Finset.univ := by
  unfold keys; rw [grp_full]; exact Finset.univ_product_univ

/-- A device and one of its keys, as the key's place among all. -/
def keyEq : Dev nD × Fin 512 ≃ Fin 16384 := finProdFinEquiv (m := 32) (n := 512)

theorem keyEq_val (p : Dev nD × Fin 512) : (keyEq p).val = p.2.val + 512 * p.1.val := rfl

/-- The head of the eight that strip `j` calls `i`. -/
def headOf (j i : Fin 4) : Fin 8 := ⟨j.val % 2 * 4 + i.val, by omega⟩

section
variable (X : FVec Ideal S2x256x768 .bf16) (WQ : FVec Ideal S768x512 .bf16) (K V : FVec Ideal Cert.ReferenceIdeal.S2x16384x8x64 .bf16)

/-- The scores of one query, and one coordinate of the values, by device and key. -/
def sc (j i : Fin 4) (q : Fin 256) (p : Dev nD × Fin 512) : EReal := Ref.score X WQ K (batchOf j) (headOf j i) q (keyEq p)
def vl (j i : Fin 4) (e : Fin 64) (p : Dev nD × Fin 512) : EReal := V (ix4 (batchOf j) (keyEq p) (headOf j i) e)

variable {X WQ K V}

/-! ## One device's scores and values -/

theorem local_value {k : FVec Ideal S2x512x8x64 .bf16} {c : Dev nD} (hk : ∀ b r h e, k (ix4 b r h e) = K (ix4 b (keyEq (c, r)) h e))
    (j i : Fin 4) (r : Fin 512) (e : Fin 64) (he : (j.val % 2 * 4 + i.val) * 64 + e.val < 512) :
    kvVal (batchOf j) k (ix2 r ⟨(j.val % 2 * 4 + i.val) * 64 + e.val, he⟩) = vl K j i e (c, r) := by
  rw [kvVal_apply, hk]
  have h1 : (⟨((j.val % 2 * 4 + i.val) * 64 + e.val) / 64, by omega⟩ : Fin 8) = headOf j i :=
    Fin.ext (by show ((j.val % 2 * 4 + i.val) * 64 + e.val) / 64 = j.val % 2 * 4 + i.val; omega)
  have h2 : (⟨((j.val % 2 * 4 + i.val) * 64 + e.val) % 64, by omega⟩ : Fin 64) = e :=
    Fin.ext (by show ((j.val % 2 * 4 + i.val) * 64 + e.val) % 64 = e.val; omega)
  exact congrArg₂ (fun a b => K (ix4 (batchOf j) (keyEq (c, r)) a b)) h1 h2

theorem local_query (j i : Fin 4) (q : Fin 256) (e : Fin 64) (he : i.val * 64 + e.val < 256) :
    qOf j (wqVal WQ) (xVal X) (ix2 ⟨i.val * 64 + e.val, he⟩ q)
      = (∑ t : Fin 768, X (ix3 (batchOf j) q t) * WQ (ix2 t ⟨(headOf j i).val * 64 + e.val, by omega⟩)) * scale := by
  rw [qOf_apply]
  refine congrArg (· * scale) (Finset.sum_congr rfl fun t _ => ?_)
  rw [wqVal_apply, xVal_apply, mul_comm]
  have h1 : (⟨(j.val / 2 * 256 + q.val) / 256, by omega⟩ : Fin 2) = batchOf j :=
    Fin.ext (by show (j.val / 2 * 256 + q.val) / 256 = j.val / 2; omega)
  have h2 : (⟨(j.val / 2 * 256 + q.val) % 256, by omega⟩ : Fin 256) = q :=
    Fin.ext (by show (j.val / 2 * 256 + q.val) % 256 = q.val; omega)
  have h3 : (⟨j.val % 2 * 256 + (i.val * 64 + e.val), by omega⟩ : Fin 512) = ⟨(headOf j i).val * 64 + e.val, by omega⟩ :=
    Fin.ext (by show j.val % 2 * 256 + (i.val * 64 + e.val) = (j.val % 2 * 4 + i.val) * 64 + e.val; omega)
  exact congrArg₂ (· * ·) (congrArg₂ (fun a b => X (ix3 a b t)) h1 h2) (congrArg (fun a => WQ (ix2 t a)) h3)

theorem local_score {k : FVec Ideal S2x512x8x64 .bf16} {c : Dev nD} (hk : ∀ b r h e, k (ix4 b r h e) = K (ix4 b (keyEq (c, r)) h e))
    (j i : Fin 4) (r : Fin 512) (q : Fin 256) :
    sOf j i (qOf j (wqVal WQ) (xVal X)) (kvVal (batchOf j) k) (ix2 r q) = sc X WQ K j i q (c, r) := by
  rw [sOf_apply]
  unfold sc Ref.score
  rw [sum_mul_of_nonneg scale_nonneg scale_ne_top]
  refine Finset.sum_congr rfl fun e _ => ?_
  rw [local_value hk, local_query, mul_comm, mul_assoc, mul_assoc]
  exact congrArg _ (mul_comm _ _)

/-! ## The invariant -/

/-- Strip `j`'s accumulators `A` cover the keys `G`. -/
def Covers (X : FVec Ideal S2x256x768 .bf16) (WQ : FVec Ideal S768x512 .bf16) (K V : FVec Ideal Cert.ReferenceIdeal.S2x16384x8x64 .bf16)
    (j : Fin 4) (A : Acc Ideal) (G : Finset (Dev nD × Fin 512)) : Prop :=
  ∀ (i : Fin 4) (q : Fin 256), A.ml (ix3 i 0 q) = top (sc X WQ K j i q) G ∧ A.ml (ix3 i 1 q) = den (sc X WQ K j i q) G
    ∧ ∀ e : Fin 64, A.o (ix3 i e q) = wt (sc X WQ K j i q) (vl V j i e) G

theorem rows_zero {α : Type} (f g : Fin 4 → Fin 256 → α) (i : Fin 4) (q : Fin 256) :
    (fun p : S4x2x256.Idx => if (p 1).val = 0 then f (p 0 : Fin 4) (p 2 : Fin 256) else g (p 0 : Fin 4) (p 2 : Fin 256)) (ix3 i 0 q) = f i q := rfl
theorem rows_one {α : Type} (f g : Fin 4 → Fin 256 → α) (i : Fin 4) (q : Fin 256) :
    (fun p : S4x2x256.Idx => if (p 1).val = 0 then f (p 0 : Fin 4) (p 2 : Fin 256) else g (p 0 : Fin 4) (p 2 : Fin 256)) (ix3 i 1 q) = g i q := rfl

set_option maxRecDepth 1000000 in
theorem flash_ml0 (j i : Fin 4) (qs : FVec Ideal S256x256 .bf16) (k v : FVec Ideal S512x512 .bf16) (q : Fin 256) :
    (flashAcc j qs k v).ml (ix3 i 0 q) = mOf (sOf j i qs k) (ix2 0 q) :=
  rows_zero (fun i q => mOf (sOf j i qs k) (ix2 0 q)) (fun i q => lOf (sOf j i qs k) (ix2 0 q)) i q
set_option maxRecDepth 1000000 in
theorem flash_ml1 (j i : Fin 4) (qs : FVec Ideal S256x256 .bf16) (k v : FVec Ideal S512x512 .bf16) (q : Fin 256) :
    (flashAcc j qs k v).ml (ix3 i 1 q) = lOf (sOf j i qs k) (ix2 0 q) :=
  rows_one (fun i q => mOf (sOf j i qs k) (ix2 0 q)) (fun i q => lOf (sOf j i qs k) (ix2 0 q)) i q
theorem flash_o (j i : Fin 4) (qs : FVec Ideal S256x256 .bf16) (k v : FVec Ideal S512x512 .bf16) (e : Fin 64) (q : Fin 256) :
    (flashAcc j qs k v).o (ix3 i e q) = oOf j i (sOf j i qs k) v (ix2 e q) := rfl

theorem covers_flash {k v : FVec Ideal S2x512x8x64 .bf16} {c : Dev nD} (hk : ∀ b r h e, k (ix4 b r h e) = K (ix4 b (keyEq (c, r)) h e))
    (hv : ∀ b r h e, v (ix4 b r h e) = V (ix4 b (keyEq (c, r)) h e)) (j : Fin 4) :
    Covers X WQ K V j (flashAcc j (qOf j (wqVal WQ) (xVal X)) (kvVal (batchOf j) k) (kvVal (batchOf j) v)) ({c} ×ˢ Finset.univ) := by
  intro i q
  have hs := fun r => local_score (X := X) (WQ := WQ) hk j i r q
  refine ⟨?_, ?_, fun e => ?_⟩
  · rw [flash_ml0, mOf_apply, top_row]; simp only [hs]
  · rw [flash_ml1, lOf_apply, den_row]; simp only [hs]
  · rw [flash_o, oOf_apply, wt_row]; simp only [hs]
    exact Finset.sum_congr rfl fun r _ => congrArg (· * _) (local_value hv j i r e _)

theorem covers_merge (hX : ∀ p, IsReal (X p)) (hW : ∀ p, IsReal (WQ p)) (hK : ∀ p, IsReal (K p)) {j : Fin 4} {A B : Acc Ideal}
    {G H : Finset (Dev nD × Fin 512)} (hA : Covers X WQ K V j A G) (hB : Covers X WQ K V j B H) (hG : G.Nonempty) (hH : H.Nonempty)
    (hd : Disjoint G H) : Covers X WQ K V j (merge A B) (G ∪ H) := by
  intro i q
  have hr : ∀ p, IsReal (sc X WQ K j i q p) := fun p => Ref.score_real hX hW hK _ _ _ _
  obtain ⟨a0, a1, a2⟩ := hA i q
  obtain ⟨b0, b1, b2⟩ := hB i q
  have A0 : rowM A.ml 0 (ix3 i 0 q) = top (sc X WQ K j i q) G := a0
  have A1 : rowM A.ml 1 (ix3 i 0 q) = den (sc X WQ K j i q) G := a1
  have B0 : rowM B.ml 0 (ix3 i 0 q) = top (sc X WQ K j i q) H := b0
  have B1 : rowM B.ml 1 (ix3 i 0 q) = den (sc X WQ K j i q) H := b1
  refine ⟨?_, ?_, fun e => ?_⟩
  · have h0 : (merge A B).ml (ix3 i 0 q) = mNew (rowM A.ml 0) (rowM B.ml 0) (ix3 i 0 q) := rfl
    rw [h0, mNew_apply, A0, B0, top_union]
  · have h0 : (merge A B).ml (ix3 i 1 q) = lNew (rowM A.ml 0) (rowM A.ml 1) (rowM B.ml 0) (rowM B.ml 1) (ix3 i 0 q) := rfl
    rw [h0, lNew_apply, A0, B0, A1, B1, den_union hr hG hH hd]
  · show oNew _ _ _ _ (ix3 i e q) = _
    rw [oNew_apply, A0, B0, a2, b2, wt_union hr _ hG hH hd]

end

end Cert.Butterfly

end
-- ==== Proof.Final.lean ====
/-
The kernel's result is the reference's: after five steps a strip's accumulators cover every key, and the four strips'
projections add up the eight heads of each batch.
-/
module

public import proofs.«01_k».proof.Proof.Spread
public import Idealize.ShloMosaic.Lib.IdealHost

@[expose] public section

noncomputable section

namespace Cert.Butterfly

open Idealize.ShloMosaic Idealize.SL.Sem
open Cert.KernelIdeal Cert.KernelIdeal.Gen
open scoped BigOperators

section
variable {X : FVec Ideal S2x256x768 .bf16} {WQ : FVec Ideal S768x512 .bf16} {K V : FVec Ideal Cert.ReferenceIdeal.S2x16384x8x64 .bf16}
  {WO : FVec Ideal S512x768 .bf16}

/-- What one head of the reference adds to the result. -/
def headTerm (X : FVec Ideal S2x256x768 .bf16) (WQ : FVec Ideal S768x512 .bf16) (K V : FVec Ideal Cert.ReferenceIdeal.S2x16384x8x64 .bf16)
    (WO : FVec Ideal S512x768 .bf16) (b : Fin 2) (q : Fin 256) (d : Fin 768) (h : Fin 8) : EReal :=
  ∑ e : Fin 64, Ideal.div (wt (Ref.score X WQ K b h q) (fun k => V (ix4 b k h e)) Finset.univ) (den (Ref.score X WQ K b h q) Finset.univ)
    * WO (ix2 ⟨h.val * 64 + e.val, by omega⟩ d)

theorem ref_heads (b : Fin 2) (q : Fin 256) (d : Fin 768) :
    Ref.out X WQ K V WO (ix3 b q d) = ∑ h : Fin 8, headTerm X WQ K V WO b q d h := Ref.out_apply X WQ K V WO b q d

theorem head_of_covers (hX : ∀ p, IsReal (X p)) (hW : ∀ p, IsReal (WQ p)) (hK : ∀ p, IsReal (K p)) {j : Fin 4} {A : Acc Ideal}
    (hA : Covers X WQ K V j A Finset.univ) (i : Fin 4) (q : Fin 256) (d : Fin 768) :
    projOf j i (linvOf (rowM A.ml 1)) (woVal WO) (headO A.o i) (ix2 q d) = headTerm X WQ K V WO (batchOf j) q d (headOf j i) := by
  obtain ⟨-, h1, h2⟩ := hA i q
  have hr : ∀ k, IsReal (Ref.score X WQ K (batchOf j) (headOf j i) q k) := fun k => Ref.score_real hX hW hK _ _ _ _
  have hl : rowM A.ml 1 (ix3 i 0 q) = den (Ref.score X WQ K (batchOf j) (headOf j i) q) Finset.univ :=
    h1.trans (den_equiv keyEq (Ref.score X WQ K (batchOf j) (headOf j i) q))
  rw [projOf_apply, hl]
  refine Finset.sum_congr rfl fun e _ => ?_
  have ho : headO A.o i (ix2 e q) = wt (Ref.score X WQ K (batchOf j) (headOf j i) q) (fun k => V (ix4 (batchOf j) k (headOf j i) e)) Finset.univ :=
    (h2 e).trans (wt_equiv keyEq (Ref.score X WQ K (batchOf j) (headOf j i) q) fun k => V (ix4 (batchOf j) k (headOf j i) e))
  rw [ho, Ideal.mul_one_div (den_ne_zero hr ⟨0, Finset.mem_univ _⟩), woVal_apply]
  rfl

theorem proj_of_covers (hX : ∀ p, IsReal (X p)) (hW : ∀ p, IsReal (WQ p)) (hK : ∀ p, IsReal (K p)) {j : Fin 4} {A : Acc Ideal}
    (hA : Covers X WQ K V j A Finset.univ) (q : Fin 256) (d : Fin 768) :
    projAcc j (woVal WO) A (ix2 q d) = headTerm X WQ K V WO (batchOf j) q d (headOf j 0) + headTerm X WQ K V WO (batchOf j) q d (headOf j 1)
      + headTerm X WQ K V WO (batchOf j) q d (headOf j 2) + headTerm X WQ K V WO (batchOf j) q d (headOf j 3) := by
  unfold projAcc
  rw [accOf_apply]
  simp only [head_of_covers hX hW hK hA]

/-- Two strips of one batch hold its eight heads. -/
theorem eight (f : Fin 8 → EReal) (j j' : Fin 4) (h0 : j.val % 2 = 0) (h1 : j'.val % 2 = 1) :
    (f (headOf j 0) + f (headOf j 1) + f (headOf j 2) + f (headOf j 3)) + (f (headOf j' 0) + f (headOf j' 1) + f (headOf j' 2) + f (headOf j' 3))
      = ∑ h : Fin 8, f h := by
  have e0 : ∀ i : Fin 4, headOf j i = ⟨i.val, by omega⟩ := fun i => Fin.ext (by show j.val % 2 * 4 + i.val = i.val; omega)
  have e1 : ∀ i : Fin 4, headOf j' i = ⟨4 + i.val, by omega⟩ := fun i => Fin.ext (by show j'.val % 2 * 4 + i.val = 4 + i.val; omega)
  simp only [e0, e1]
  rw [Fin.sum_univ_eight]
  simp only [← add_assoc]
  rfl

theorem outOf_zero (wo : FVec Ideal S512x768 .bf16) (A : Fin 4 → Acc Ideal) (q : Fin 256) (d : Fin 768) :
    outOf wo A (ix3 0 q d) = projAcc 0 wo (A 0) (ix2 q d) + projAcc 1 wo (A 1) (ix2 q d) := rfl
theorem outOf_one (wo : FVec Ideal S512x768 .bf16) (A : Fin 4 → Acc Ideal) (q : Fin 256) (d : Fin 768) :
    outOf wo A (ix3 1 q d) = projAcc 2 wo (A 2) (ix2 q d) + projAcc 3 wo (A 3) (ix2 q d) := rfl

theorem out_of_covers (hX : ∀ p, IsReal (X p)) (hW : ∀ p, IsReal (WQ p)) (hK : ∀ p, IsReal (K p)) {A : Fin 4 → Acc Ideal}
    (hA : ∀ j, Covers X WQ K V j (A j) Finset.univ) : outOf (woVal WO) A = Ref.out X WQ K V WO := by
  funext p; obtain ⟨b, q, d, rfl⟩ := ex3 p
  refine Eq.trans ?_ (ref_heads b q d).symm
  fin_cases b
  · refine (outOf_zero _ A q d).trans ?_
    rw [proj_of_covers hX hW hK (hA 0), proj_of_covers hX hW hK (hA 1)]
    exact eight (headTerm X WQ K V WO 0 q d) 0 1 rfl rfl
  · refine (outOf_one _ A q d).trans ?_
    rw [proj_of_covers hX hW hK (hA 2), proj_of_covers hX hW hK (hA 3)]
    exact eight (headTerm X WQ K V WO 1 q d) 2 3 rfl rfl

section
variable {m : (ℓ : Loc nD τ sig) → Buf (Elt Ideal) ℓ} (hx : ∀ c, xStg m c = X) (hw : ∀ c, wqStg m c = WQ) (ho : ∀ c, woStg m c = WO)
  (hk : ∀ c b r h e, kStg m c (ix4 b r h e) = K (ix4 b (keyEq (c, r)) h e)) (hv : ∀ c b r h e, vStg m c (ix4 b r h e) = V (ix4 b (keyEq (c, r)) h e))
  (hX : ∀ p, IsReal (X p)) (hW : ∀ p, IsReal (WQ p)) (hK : ∀ p, IsReal (K p))
include hx hw hk hv hX hW hK

theorem covers_accN (j : Fin 4) (s : ℕ) (hs : s ≤ 5) : ∀ c, Covers X WQ K V j (accN m j s c) (keys j s c) := by
  induction s with
  | zero =>
    intro c
    have h := covers_flash (X := X) (WQ := WQ) (hk c) (hv c) j
    rw [← hx c, ← hw c] at h ⊢
    exact h
  | succ s ih =>
    intro c
    rw [keys_succ]
    exact covers_merge hX hW hK (ih (by omega) c) (ih (by omega) _) (keys_nonempty j s c) (keys_nonempty j s _) (keys_disjoint j s (by omega) c)

include ho

/-- Every device ends with the reference's result. -/
theorem outAt_eq (c : Dev nD) : outAt m c = Ref.out X WQ K V WO := by
  unfold outAt
  rw [ho]
  exact out_of_covers hX hW hK fun j => keys_full j c ▸ covers_accN hx hw hk hv hX hW hK j 5 (le_refl _) c

end
end

end Cert.Butterfly

end
-- ==== Proof.Algebraic.lean ====
/-
The kernel's result is the reference's, from memories whose activations, query weights and keys are finite; and the
frames under that precondition, which do not need it.
-/
module

public import proofs.«01_k».proof.Proof.Final
public import proofs.«01_k».proof.Proof.Frames
public import Idealize.ShloMosaic.Lib.ReduceAll

@[expose] public section

noncomputable section

namespace Cert.Butterfly

open Idealize.ShloMosaic Idealize.ShloMosaic.TcCoe Idealize.SL.Sem

/-! ## The precondition's side conditions -/

theorem preK : Cert.Pre_finite_KernelIdeal.Facts where
  bcast_S_S2x256x768 := by decide
  reducesTo_S2x256x768_S_d0_1_2 := by decide
  h_S_ := by decide
  bcast_S_S768x512 := by decide
  reducesTo_S768x512_S_d0_1 := by decide
  bcast_S_S2x512x8x64 := by decide
  reducesTo_S2x512x8x64_S_d0_1_2_3 := by decide

theorem preR : Cert.Pre_finite_ReferenceIdeal.Facts where
  bcast_S_S2x256x768 := by decide
  reducesTo_S2x256x768_S_d0_1_2 := by decide
  h_S_ := by decide
  bcast_S_S768x512 := by decide
  reducesTo_S768x512_S_d0_1 := by decide
  bcast_S_S2x16384x8x64 := by decide
  reducesTo_S2x16384x8x64_S_d0_1_2_3 := by decide

attribute [local instance] preK preR

/-! ## The precondition read -/

theorem ofBits_pos_inf : Ideal.ofBits .bf16 0x7F80#16 = ⊤ := by simp [Ideal.ofBits, Ideal.ieee]

/-- A value whose absolute value is below infinity is a real. -/
theorem real_of_cmp {x : EReal} (h : Ideal.cmp .olt (max x (-x)) (Ideal.ofBits .bf16 0x7F80#16) = 1#1) : IsReal x := by
  rw [ofBits_pos_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x with
  | bot => simp at hlt
  | top => simp at hlt
  | coe r => exact ⟨r, rfl⟩

instance : Subsingleton Cert.Pre_finite_KernelIdeal.S_.Idx := ⟨fun a b => funext fun i => i.elim0⟩

open Cert.Pre_finite_KernelIdeal in
theorem finite_read {x : FVec Ideal S2x256x768 .bf16} {wq : FVec Ideal S768x512 .bf16} {k v : FVec Ideal S2x512x8x64 .bf16} {wo : FVec Ideal S512x768 .bf16}
    (h : Cert.Pre_finite_KernelIdeal.fn x wq k v wo = fun _ => 1#1) :
    (∀ p, IsReal (x p)) ∧ (∀ p, IsReal (wq p)) ∧ ∀ p, IsReal (k p) := by
  have h0 := congrFun h (fun i : Fin 0 => i.elim0)
  obtain ⟨h01, h2⟩ := IntOp.andi_eq_one.1 h0
  obtain ⟨h1, h1'⟩ := IntOp.andi_eq_one.1 h01
  exact ⟨fun p => real_of_cmp (Host.reduce_andi_all _ _ _ _ _ h1 p), fun p => real_of_cmp (Host.reduce_andi_all _ _ _ _ _ h1' p),
    fun p => real_of_cmp (Host.reduce_andi_all _ _ _ _ _ h2 p)⟩

/-! ## The blocks -/

theorem block_at (c : Fin 32) (A : FVec Ideal Cert.ReferenceIdeal.S2x16384x8x64 .bf16) (b : Fin 2) (r : Fin 512) (h : Fin 8) (e : Fin 64) :
    Layout.block ⟨4, ![2, 512, 8, 64]⟩ ⟨4, ![2, 16384, 8, 64]⟩ 1 32 c A (by decide) (ix4 b r h e) = A (ix4 b (keyEq (c, r)) h e) := by
  rw [Layout.block_apply]
  refine congrArg A (funext fun a => Fin.ext ?_)
  rw [Layout.Tiles.idx_val]
  fin_cases a
  · rfl
  · show c.val * 512 + r.val = r.val + 512 * c.val
    omega
  · rfl
  · rfl

/-- Every key lies in some device's block. -/
theorem real_of_blocks {A : FVec Ideal Cert.ReferenceIdeal.S2x16384x8x64 .bf16}
    (hA : ∀ (c : Fin 32) (b : Fin 2) (r : Fin 512) (h : Fin 8) (e : Fin 64), IsReal (A (ix4 b (keyEq (c, r)) h e))) (p) : IsReal (A p) := by
  obtain ⟨⟨c, r⟩, hcr⟩ := keyEq.surjective (p 1 : Fin 16384)
  have hp : p = ix4 (p 0 : Fin 2) (keyEq (c, r)) (p 2 : Fin 8) (p 3 : Fin 64) := by
    funext a; fin_cases a
    · rfl
    · exact hcr.symm
    · rfl
    · rfl
  rw [hp]
  exact hA c _ r _ _

/-! ## The claims -/

theorem frame_kernelIdeal_pre : Cert.quiescent_KernelIdeal_pre_finite_KernelIdeal (hPre_finite_KernelIdeal := preK) := fun m ρ _ =>
  frame_kernelIdeal m ρ trivial

theorem frame_reference_pre : Cert.quiescent_ReferenceIdeal_pre_finite_ReferenceIdeal (hPre_finite_ReferenceIdeal := preR) := fun m ρ _ =>
  frame_reference m ρ trivial

theorem algebraic : Cert.algebraic_KernelIdeal_ReferenceIdeal_pre_finite_KernelIdeal (hPre_finite_KernelIdeal := preK) := by
  intro m g m' g' hp ha
  have hf := fun c => finite_read (hp c)
  have hk : ∀ c b r h e, kStg m c (ix4 b r h e)
      = m' (((0 : Dev Cert.ReferenceIdeal.nD).tc : Thread Cert.ReferenceIdeal.nD Cert.ReferenceIdeal.τ).loc Cert.ReferenceIdeal.main_arg2) (ix4 b (keyEq (c, r)) h e) :=
    fun c b r h e => (congrFun ((kStg_eq m c).trans (ha c).2.2.1) _).trans (block_at c _ b r h e)
  have hv : ∀ c b r h e, vStg m c (ix4 b r h e)
      = m' (((0 : Dev Cert.ReferenceIdeal.nD).tc : Thread Cert.ReferenceIdeal.nD Cert.ReferenceIdeal.τ).loc Cert.ReferenceIdeal.main_arg3) (ix4 b (keyEq (c, r)) h e) :=
    fun c b r h e => (congrFun ((vStg_eq m c).trans (ha c).2.2.2.1) _).trans (block_at c _ b r h e)
  have hX := (ha 0).1 ▸ (hf 0).1
  have hW := (ha 0).2.1 ▸ (hf 0).2.1
  have hK : ∀ p, IsReal (m' (((0 : Dev Cert.ReferenceIdeal.nD).tc : Thread Cert.ReferenceIdeal.nD Cert.ReferenceIdeal.τ).loc Cert.ReferenceIdeal.main_arg2) p) :=
    real_of_blocks fun c b r h e => by
      have h1 := (hf c).2.2 (ix4 b r h e)
      rwa [(ha c).2.2.1, block_at] at h1
  refine ⟨_, (θ_run Cert.KernelIdeal.defs _ _).mono (fun r h c => ⟨(h.1 c).1.trans (outAt_eq (fun c => (xStg_eq m c).trans (ha c).1)
    (fun c => (wqStg_eq m c).trans (ha c).2.1) (fun c => (woStg_eq m c).trans (ha c).2.2.2.2) hk hv hX hW hK c), (h.1 c).2⟩) (run_named (F := Ideal) m g),
    (θ_run Cert.ReferenceIdeal.defs _ _).mono (fun r h => ⟨(h 0).1, (h 0).2⟩) (Cert.ReferenceIdeal.Value.run (F := Ideal) m' g')⟩

end Cert.Butterfly

end
-- ==== Proof.lean ====
/-
The certificate: the three frames, that the ideal program is the kernel's own text, and that its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Butterfly.preK, Cert.Butterfly.preR,
  Cert.Butterfly.frame_kernel, Cert.Butterfly.frame_kernelIdeal, Cert.Butterfly.frame_kernelIdeal_pre, Cert.Butterfly.frame_reference,
  Cert.Butterfly.frame_reference_pre, trivial, Cert.Butterfly.algebraic⟩

end Cert.Proof

end
